-- ==== Defs.lean ====
def Pre_Kernel [hPre_states_named : Cert.Pre_states_named.Facts] (m : (ℓ : Loc Cert.Kernel.nD Cert.Kernel.τ Cert.Kernel.sig) → Buf (Elt Bits) ℓ) : Prop :=
  ∀ c : Dev Cert.Kernel.nD,
    (Cert.Pre_states_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_states_named : Cert.Pre_states_named.Facts] (m : (ℓ : Loc Cert.KernelIdeal.nD Cert.KernelIdeal.τ Cert.KernelIdeal.sig) → Buf (Elt Ideal) ℓ) : Prop :=
  ∀ c : Dev Cert.KernelIdeal.nD,
    (Cert.Pre_states_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_states_named : Cert.Pre_states_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_states_named : Cert.Pre_states_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_states_named : Cert.Pre_states_named.Facts) (hPre_well_formed : Cert.Pre_well_formed.Facts),
    quiescent_Kernel (hKernel := hKernel) (hPre_states_named := hPre_states_named)
    ∧ quiescent_KernelIdeal (hKernelIdeal := hKernelIdeal) (hPre_states_named := hPre_states_named)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_states_named.lean ====
abbrev S8x64x256 : Shape := ⟨3, ![8, 64, 256]⟩
abbrev S8x64 : Shape := ⟨2, ![8, 64]⟩
abbrev S384x64x256 : Shape := ⟨3, ![384, 64, 256]⟩
abbrev S384x64 : Shape := ⟨2, ![384, 64]⟩
abbrev S8 : Shape := ⟨1, ![8]⟩
abbrev S384 : Shape := ⟨1, ![384]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S384 : S_.BroadcastsInDim S384 (![] : Fin 0 → Fin S384.rank)

variable [Facts]

def fn {F : FTy → Type} [FloatOps F] (main_arg0 : FVec F S8x64x256 .f32) (main_arg1 : IVec S8x64 1) (main_arg2 : FVec F S384x64x256 .f32) (main_arg3 : IVec S384x64 1) (main_arg4 : IVec S8 32) (main_arg5 : IVec S384 32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) : IVec S384 1 :=
  let main_c : IVec S_ 32 := constantI S_ 32 0#32
  let main_v0 : IVec S384 32 := broadcastInDim S384 ![] bcast_S_S384 main_c
  let main_v1 : IVec S384 1 := cmpi .sge main_arg5 main_v0
  let main_c_0 : IVec S_ 32 := constantI S_ 32 8#32
  let main_v2 : IVec S384 32 := broadcastInDim S384 ![] bcast_S_S384 main_c_0
  let main_v3 : IVec S384 1 := cmpi .slt main_arg5 main_v2
  let main_v4 : IVec S384 1 := andi main_v1 main_v3
  main_v4
-- ==== Pre_well_formed.lean ====
abbrev S8x64x256 : Shape := ⟨3, ![8, 64, 256]⟩
abbrev S8x64 : Shape := ⟨2, ![8, 64]⟩
abbrev S384x64x256 : Shape := ⟨3, ![384, 64, 256]⟩
abbrev S384x64 : Shape := ⟨2, ![384, 64]⟩
abbrev S8 : Shape := ⟨1, ![8]⟩
abbrev S384 : Shape := ⟨1, ![384]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S384x1 : Shape := ⟨2, ![384, 1]⟩
abbrev S1x8 : Shape := ⟨2, ![1, 8]⟩
abbrev S384x8 : Shape := ⟨2, ![384, 8]⟩
abbrev S8x48 : Shape := ⟨2, ![8, 48]⟩
abbrev S8x1 : Shape := ⟨2, ![8, 1]⟩

class Facts : Prop where
  bcast_S_S8x64x256 : S_.BroadcastsInDim S8x64x256 (![] : Fin 0 → Fin S8x64x256.rank)
  reducesTo_S8x64x256_S_d0_1_2 : S8x64x256.ReducesTo [0, 1, 2] S_
  h_S_ : 0 < S_.numel
  bcast_S_S384x64x256 : S_.BroadcastsInDim S384x64x256 (![] : Fin 0 → Fin S384x64x256.rank)
  reducesTo_S384x64x256_S_d0_1_2 : S384x64x256.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S_ : S_.BroadcastsInDim S_ (![] : Fin 0 → Fin S_.rank)
  reduceWindows_S8_S8_w8s1p7_0 : S8.ReduceWindows (![8] : Fin 1 → Nat) ![1] ![7] ![0] S8
  bcast_S384_S384x1_0 : S384.BroadcastsInDim S384x1 (![0] : Fin 1 → Fin S384x1.rank)
  bcast_S8_S1x8_1 : S8.BroadcastsInDim S1x8 (![1] : Fin 1 → Fin S1x8.rank)
  bcast_S1x8_S384x8_0_1 : S1x8.BroadcastsInDim S384x8 (![0, 1] : Fin 2 → Fin S384x8.rank)
  bcast_S384x1_S384x8_0_1 : S384x1.BroadcastsInDim S384x8 (![0, 1] : Fin 2 → Fin S384x8.rank)
  reducesTo_S384x8_S384_d1 : S384x8.ReducesTo [1] S384
  bcast_S_S384 : S_.BroadcastsInDim S384 (![] : Fin 0 → Fin S384.rank)
  shapeCasts_S384_S8x48 : S384.ShapeCasts S8x48
  slices_S8x48_S8x1_0_0 : S8x48.Slices ![0, 0] S8x1
  bcast_S8x1_S8x48_0_1 : S8x1.BroadcastsInDim S8x48 (![0, 1] : Fin 2 → Fin S8x48.rank)
  slices_S8x48_S8x1_0_47 : S8x48.Slices ![0, 47] S8x1
  shapeCasts_S8x48_S384 : S8x48.ShapeCasts S384

variable [Facts]

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn_part4 {F : FTy → Type} [FloatOps F] (main_arg5 : IVec S384 32) (main_v49 : IVec S_ 1) (main_v70 : IVec S384 1) (main_v72 : IVec S384 1) : IVec S384 1 :=
  let main_v73 : IVec S384 1 := andi main_v70 main_v72
  let main_c_21 : IVec S_ 32 := constantI S_ 32 8#32
  let main_v74 : IVec S384 32 := broadcastInDim S384 ![] bcast_S_S384 main_c_21
  let main_v75 : IVec S384 1 := cmpi .slt main_arg5 main_v74
  let main_v76 : IVec S384 1 := andi main_v73 main_v75
  let main_v77 : IVec S8x48 32 := shapeCast S8x48 main_arg5 shapeCasts_S384_S8x48
  let main_v78 : IVec S8x1 32 := (extractStridedSlice S8x1 ![0, 0] · slices_S8x48_S8x1_0_0) main_v77
  let main_v79 : IVec S8x48 32 := broadcastInDim S8x48 ![0, 1] bcast_S8x1_S8x48_0_1 main_v78
  let main_v80 : IVec S8x48 1 := cmpi .eq main_v77 main_v79
  let main_v81 : IVec S8x1 32 := (extractStridedSlice S8x1 ![0, 47] · slices_S8x48_S8x1_0_47) main_v77
  let main_v82 : IVec S8x48 32 := broadcastInDim S8x48 ![0, 1] bcast_S8x1_S8x48_0_1 main_v81
  let main_v83 : IVec S8x48 1 := cmpi .eq main_v77 main_v82
  let main_v84 : IVec S8x48 1 := ori main_v80 main_v83
  let main_v85 : IVec S384 1 := shapeCast S384 main_v84 shapeCasts_S8x48_S384
  let main_v86 : IVec S384 1 := andi main_v76 main_v85
  let main_v87 : IVec S384 1 := broadcastInDim S384 ![] bcast_S_S384 main_v49
  let main_v88 : IVec S384 1 := andi main_v86 main_v87
  main_v88

def fn_part3 {F : FTy → Type} [FloatOps F] (main_arg4 : IVec S8 32) (main_arg5 : IVec S384 32) (main_v49 : IVec S_ 1) (main_v50 : IVec S8 32) : IVec S384 1 :=
  let main_v51 : IVec S8 32 := subi main_v50 main_arg4
  let main_v52 : IVec S384 32 := iotaInDim S384 32 0
  let main_v53 : IVec S384x1 32 := broadcastInDim S384x1 ![0] bcast_S384_S384x1_0 main_v52
  let main_v54 : IVec S1x8 32 := broadcastInDim S1x8 ![1] bcast_S8_S1x8_1 main_v51
  let main_v55 : IVec S384x8 32 := broadcastInDim S384x8 ![0, 1] bcast_S1x8_S384x8_0_1 main_v54
  let main_v56 : IVec S384x8 32 := broadcastInDim S384x8 ![0, 1] bcast_S384x1_S384x8_0_1 main_v53
  let main_v57 : IVec S384x8 1 := cmpi .sle main_v55 main_v56
  let main_v58 : IVec S1x8 32 := broadcastInDim S1x8 ![1] bcast_S8_S1x8_1 main_v50
  let main_v59 : IVec S384x8 32 := broadcastInDim S384x8 ![0, 1] bcast_S384x1_S384x8_0_1 main_v53
  let main_v60 : IVec S384x8 32 := broadcastInDim S384x8 ![0, 1] bcast_S1x8_S384x8_0_1 main_v58
  let main_v61 : IVec S384x8 1 := cmpi .slt main_v59 main_v60
  let main_v62 : IVec S384x8 1 := andi main_v57 main_v61
  let main_v63 : IVec S384x1 32 := broadcastInDim S384x1 ![0] bcast_S384_S384x1_0 main_arg5
  let main_v64 : IVec S8 32 := iotaInDim S8 32 0
  let main_v65 : IVec S1x8 32 := broadcastInDim S1x8 ![1] bcast_S8_S1x8_1 main_v64
  let main_v66 : IVec S384x8 32 := broadcastInDim S384x8 ![0, 1] bcast_S384x1_S384x8_0_1 main_v63
  let main_v67 : IVec S384x8 32 := broadcastInDim S384x8 ![0, 1] bcast_S1x8_S384x8_0_1 main_v65
  let main_v68 : IVec S384x8 1 := cmpi .eq main_v66 main_v67
  let main_v69 : IVec S384x8 1 := cmpi .eq main_v68 main_v62
  let main_c_19 : IVec S_ 1 := constantI S_ 1 1#1
  let main_v70 : IVec S384 1 := (fun x v => Host.reduce IntOp.andi x v reducesTo_S384x8_S384_d1 h_S_) main_v69 main_c_19
  let main_c_20 : IVec S_ 32 := constantI S_ 32 0#32
  let main_v71 : IVec S384 32 := broadcastInDim S384 ![] bcast_S_S384 main_c_20
  let main_v72 : IVec S384 1 := cmpi .sge main_arg5 main_v71
  fn_part4 (F := F) main_arg5 main_v49 main_v70 main_v72

def fn_part2 {F : FTy → Type} [FloatOps F] (main_arg4 : IVec S8 32) (main_arg5 : IVec S384 32) (main_arg11 : FVec F S512 .f32) (main_arg12 : FVec F S512x1 .f32) (main_arg13 : FVec F S1 .f32) (main_v29 : IVec S_ 1) (main_v32 : IVec S512x512 1) (main_c_12 : IVec S_ 1) : IVec S384 1 :=
  let main_v33 : IVec S_ 1 := (fun x v => Host.reduce IntOp.andi x v reducesTo_S512x512_S_d0_1 h_S_) main_v32 main_c_12
  let main_v34 : IVec S_ 1 := andi main_v29 main_v33
  let main_v35 : FVec F S512 .f32 := Host.absf main_arg11
  let main_cst_13 : FVec F S_ .f32 := constant S_ .f32 0x7F800000#32
  let main_v36 : FVec F S512 .f32 := broadcastInDim S512 ![] bcast_S_S512 main_cst_13
  let main_v37 : IVec S512 1 := cmpf .olt main_v35 main_v36
  let main_c_14 : IVec S_ 1 := constantI S_ 1 1#1
  let main_v38 : IVec S_ 1 := (fun x v => Host.reduce IntOp.andi x v reducesTo_S512_S_d0 h_S_) main_v37 main_c_14
  let main_v39 : IVec S_ 1 := andi main_v34 main_v38
  let main_v40 : FVec F S512x1 .f32 := Host.absf main_arg12
  let main_cst_15 : FVec F S_ .f32 := constant S_ .f32 0x7F800000#32
  let main_v41 : FVec F S512x1 .f32 := broadcastInDim S512x1 ![] bcast_S_S512x1 main_cst_15
  let main_v42 : IVec S512x1 1 := cmpf .olt main_v40 main_v41
  let main_c_16 : IVec S_ 1 := constantI S_ 1 1#1
  let main_v43 : IVec S_ 1 := (fun x v => Host.reduce IntOp.andi x v reducesTo_S512x1_S_d0_1 h_S_) main_v42 main_c_16
  let main_v44 : IVec S_ 1 := andi main_v39 main_v43
  let main_v45 : FVec F S1 .f32 := Host.absf main_arg13
  let main_cst_17 : FVec F S_ .f32 := constant S_ .f32 0x7F800000#32
  let main_v46 : FVec F S1 .f32 := broadcastInDim S1 ![] bcast_S_S1 main_cst_17
  let main_v47 : IVec S1 1 := cmpf .olt main_v45 main_v46
  let main_c_18 : IVec S_ 1 := constantI S_ 1 1#1
  let main_v48 : IVec S_ 1 := (fun x v => Host.reduce IntOp.andi x v reducesTo_S1_S_d0 h_S_) main_v47 main_c_18
  let main_v49 : IVec S_ 1 := andi main_v44 main_v48
  let main_v50 : IVec S8 32 := fn_cumsum (F := F) main_arg4
  fn_part3 (F := F) main_arg4 main_arg5 main_v49 main_v50

def fn_part1 {F : FTy → Type} [FloatOps F] (main_arg4 : IVec S8 32) (main_arg5 : IVec S384 32) (main_arg8 : FVec F S512x512 .f32) (main_arg9 : FVec F S512 .f32) (main_arg10 : FVec F S512x512 .f32) (main_arg11 : FVec F S512 .f32) (main_arg12 : FVec F S512x1 .f32) (main_arg13 : FVec F S1 .f32) (main_v14 : IVec S_ 1) (main_v15 : FVec F S512 .f32) (main_cst_5 : FVec F S_ .f32) : IVec S384 1 :=
  let main_v16 : FVec F S512 .f32 := broadcastInDim S512 ![] bcast_S_S512 main_cst_5
  let main_v17 : IVec S512 1 := cmpf .olt main_v15 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v14 main_v18
  let main_v20 : FVec F S512x512 .f32 := Host.absf main_arg8
  let main_cst_7 : FVec F S_ .f32 := constant S_ .f32 0x7F800000#32
  let main_v21 : FVec F S512x512 .f32 := broadcastInDim S512x512 ![] bcast_S_S512x512 main_cst_7
  let main_v22 : IVec S512x512 1 := cmpf .olt main_v20 main_v21
  let main_c_8 : IVec S_ 1 := constantI S_ 1 1#1
  let main_v23 : IVec S_ 1 := (fun x v => Host.reduce IntOp.andi x v reducesTo_S512x512_S_d0_1 h_S_) main_v22 main_c_8
  let main_v24 : IVec S_ 1 := andi main_v19 main_v23
  let main_v25 : FVec F S512 .f32 := Host.absf main_arg9
  let main_cst_9 : FVec F S_ .f32 := constant S_ .f32 0x7F800000#32
  let main_v26 : FVec F S512 .f32 := broadcastInDim S512 ![] bcast_S_S512 main_cst_9
  let main_v27 : IVec S512 1 := cmpf .olt main_v25 main_v26
  let main_c_10 : IVec S_ 1 := constantI S_ 1 1#1
  let main_v28 : IVec S_ 1 := (fun x v => Host.reduce IntOp.andi x v reducesTo_S512_S_d0 h_S_) main_v27 main_c_10
  let main_v29 : IVec S_ 1 := andi main_v24 main_v28
  let main_v30 : FVec F S512x512 .f32 := Host.absf main_arg10
  let main_cst_11 : FVec F S_ .f32 := constant S_ .f32 0x7F800000#32
  let main_v31 : FVec F S512x512 .f32 := broadcastInDim S512x512 ![] bcast_S_S512x512 main_cst_11
  let main_v32 : IVec S512x512 1 := cmpf .olt main_v30 main_v31
  let main_c_12 : IVec S_ 1 := constantI S_ 1 1#1
  fn_part2 (F := F) main_arg4 main_arg5 main_arg11 main_arg12 main_arg13 main_v29 main_v32 main_c_12

def fn {F : FTy → Type} [FloatOps F] (main_arg0 : FVec F S8x64x256 .f32) (main_arg1 : IVec S8x64 1) (main_arg2 : FVec F S384x64x256 .f32) (main_arg3 : IVec S384x64 1) (main_arg4 : IVec S8 32) (main_arg5 : IVec S384 32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) : IVec S384 1 :=
  let main_v0 : FVec F S8x64x256 .f32 := Host.absf main_arg0
  let main_cst : FVec F S_ .f32 := constant S_ .f32 0x7F800000#32
  let main_v1 : FVec F S8x64x256 .f32 := broadcastInDim S8x64x256 ![] bcast_S_S8x64x256 main_cst
  let main_v2 : IVec S8x64x256 1 := cmpf .olt main_v0 main_v1
  let main_c : IVec S_ 1 := constantI S_ 1 1#1
  let main_v3 : IVec S_ 1 := (fun x v => Host.reduce IntOp.andi x v reducesTo_S8x64x256_S_d0_1_2 h_S_) main_v2 main_c
  let main_c_0 : IVec S_ 1 := constantI S_ 1 1#1
  let main_v4 : IVec S_ 1 := andi main_c_0 main_v3
  let main_v5 : FVec F S384x64x256 .f32 := Host.absf main_arg2
  let main_cst_1 : FVec F S_ .f32 := constant S_ .f32 0x7F800000#32
  let main_v6 : FVec F S384x64x256 .f32 := broadcastInDim S384x64x256 ![] bcast_S_S384x64x256 main_cst_1
  let main_v7 : IVec S384x64x256 1 := cmpf .olt main_v5 main_v6
  let main_c_2 : IVec S_ 1 := constantI S_ 1 1#1
  let main_v8 : IVec S_ 1 := (fun x v => Host.reduce IntOp.andi x v reducesTo_S384x64x256_S_d0_1_2 h_S_) main_v7 main_c_2
  let main_v9 : IVec S_ 1 := andi main_v4 main_v8
  let main_v10 : FVec F S512x512 .f32 := Host.absf main_arg6
  let main_cst_3 : FVec F S_ .f32 := constant S_ .f32 0x7F800000#32
  let main_v11 : FVec F S512x512 .f32 := broadcastInDim S512x512 ![] bcast_S_S512x512 main_cst_3
  let main_v12 : IVec S512x512 1 := cmpf .olt main_v10 main_v11
  let main_c_4 : IVec S_ 1 := constantI S_ 1 1#1
  let main_v13 : IVec S_ 1 := (fun x v => Host.reduce IntOp.andi x v reducesTo_S512x512_S_d0_1 h_S_) main_v12 main_c_4
  let main_v14 : IVec S_ 1 := andi main_v9 main_v13
  let main_v15 : FVec F S512 .f32 := Host.absf main_arg7
  let main_cst_5 : FVec F S_ .f32 := constant S_ .f32 0x7F800000#32
  fn_part1 (F := F) main_arg4 main_arg5 main_arg8 main_arg9 main_arg10 main_arg11 main_arg12 main_arg13 main_v14 main_v15 main_cst_5
-- ==== Kernel.lean ====
abbrev S8x64x256 : Shape := ⟨3, ![8, 64, 256]⟩
abbrev S8x64 : Shape := ⟨2, ![8, 64]⟩
abbrev S384x64x256 : Shape := ⟨3, ![384, 64, 256]⟩
abbrev S384x64 : Shape := ⟨2, ![384, 64]⟩
abbrev S8 : Shape := ⟨1, ![8]⟩
abbrev S384 : Shape := ⟨1, ![384]⟩
abbrev S512x512 : Shape := ⟨2, ![512, 512]⟩
abbrev S512 : Shape := ⟨1, ![512]⟩
abbrev S512x1 : Shape := ⟨2, ![512, 1]⟩
abbrev S1 : Shape := ⟨1, ![1]⟩
abbrev S24576x256 : Shape := ⟨2, ![24576, 256]⟩
abbrev S512x256 : Shape := ⟨2, ![512, 256]⟩
abbrev S_ : Shape := ⟨0, ![]⟩
abbrev S9 : Shape := ⟨1, ![9]⟩
abbrev S8x48x64 : Shape := ⟨3, ![8, 48, 64]⟩
abbrev S256x512 : Shape := ⟨2, ![256, 512]⟩
abbrev S1x512 : Shape := ⟨2, ![1, 512]⟩
abbrev S8x48 : Shape := ⟨2, ![8, 48]⟩
abbrev S384x512 : Shape := ⟨2, ![384, 512]⟩
abbrev S3072x256 : Shape := ⟨2, ![3072, 256]⟩
abbrev S1x48x64 : Shape := ⟨3, ![1, 48, 64]⟩
abbrev S48x512 : Shape := ⟨2, ![48, 512]⟩
abbrev S1x1 : Shape := ⟨2, ![1, 1]⟩
abbrev S64x512 : Shape := ⟨2, ![64, 512]⟩
abbrev S48x1x1 : Shape := ⟨3, ![48, 1, 1]⟩
abbrev S1x64x512 : Shape := ⟨3, ![1, 64, 512]⟩
abbrev S48x64x512 : Shape := ⟨3, ![48, 64, 512]⟩
abbrev S3072x512 : Shape := ⟨2, ![3072, 512]⟩
abbrev S1x1x512 : Shape := ⟨3, ![1, 1, 512]⟩
abbrev S48x64 : Shape := ⟨2, ![48, 64]⟩
abbrev S48x64x1 : Shape := ⟨3, ![48, 64, 1]⟩
abbrev S1x384 : Shape := ⟨2, ![1, 384]⟩
abbrev S384x1 : Shape := ⟨2, ![384, 1]⟩
abbrev S1x384x1 : Shape := ⟨3, ![1, 384, 1]⟩
abbrev S1x1x1 : Shape := ⟨3, ![1, 1, 1]⟩
abbrev S8x384 : Shape := ⟨2, ![8, 384]⟩
abbrev S8x1 : Shape := ⟨2, ![8, 1]⟩
abbrev S384x8 : Shape := ⟨2, ![384, 8]⟩

abbrev nBuf : Space → Nat
  | .hbm => 41
  | .vmem => 22
  | .smem => 2
  | _ => 0

abbrev bufTy : (tb : Table) → Fin (tcTables nBuf tb) → BufTy
  | .hbm, ⟨0, _⟩ => ⟨S8x64x256, .f32⟩
  | .hbm, ⟨1, _⟩ => ⟨S8x64, .i1⟩
  | .hbm, ⟨2, _⟩ => ⟨S384x64x256, .f32⟩
  | .hbm, ⟨3, _⟩ => ⟨S384x64, .i1⟩
  | .hbm, ⟨4, _⟩ => ⟨S8, .i32⟩
  | .hbm, ⟨5, _⟩ => ⟨S384, .i32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S24576x256, .f32⟩
  | .hbm, ⟨15, _⟩ => ⟨S512x256, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S_, .i32⟩
  | .hbm, ⟨20, _⟩ => ⟨S8, .i32⟩
  | .hbm, ⟨21, _⟩ => ⟨S9, .i32⟩
  | .hbm, ⟨22, _⟩ => ⟨S384x64, .f32⟩
  | .hbm, ⟨23, _⟩ => ⟨S8x48x64, .f32⟩
  | .hbm, ⟨24, _⟩ => ⟨S256x512, .f32⟩
  | .hbm, ⟨25, _⟩ => ⟨S256x512, .bf16⟩
  | .hbm, ⟨26, _⟩ => ⟨S256x512, .f32⟩
  | .hbm, ⟨27, _⟩ => ⟨S256x512, .bf16⟩
  | .hbm, ⟨28, _⟩ => ⟨S1x512, .f32⟩
  | .hbm, ⟨29, _⟩ => ⟨S8x48, .i32⟩
  | .hbm, ⟨30, _⟩ => ⟨S384x512, .f32⟩
  | .hbm, ⟨31, _⟩ => ⟨S1x384, .i32⟩
  | .hbm, ⟨32, _⟩ => ⟨S384x1, .i32⟩
  | .hbm, ⟨33, _⟩ => ⟨S512x512, .bf16⟩
  | .hbm, ⟨34, _⟩ => ⟨S1x512, .f32⟩
  | .hbm, ⟨35, _⟩ => ⟨S512x512, .bf16⟩
  | .hbm, ⟨36, _⟩ => ⟨S1x512, .f32⟩
  | .hbm, ⟨37, _⟩ => ⟨S512x1, .bf16⟩
  | .hbm, ⟨38, _⟩ => ⟨S1x1, .f32⟩
  | .hbm, ⟨39, _⟩ => ⟨S384x1, .f32⟩
  | .hbm, ⟨40, _⟩ => ⟨S384, .f32⟩
  | .local _ .vmem, ⟨0, _⟩ => ⟨S3072x256, .f32⟩
  | .local _ .vmem, ⟨1, _⟩ => ⟨S3072x256, .f32⟩
  | .local _ .vmem, ⟨2, _⟩ => ⟨S256x512, .bf16⟩
  | .local _ .vmem, ⟨3, _⟩ => ⟨S256x512, .bf16⟩
  | .local _ .vmem, ⟨4, _⟩ => ⟨S512x256, .f32⟩
  | .local _ .vmem, ⟨5, _⟩ => ⟨S1x512, .f32⟩
  | .local _ .vmem, ⟨6, _⟩ => ⟨S1x48x64, .f32⟩
  | .local _ .vmem, ⟨7, _⟩ => ⟨S1x48x64, .f32⟩
  | .local _ .vmem, ⟨8, _⟩ => ⟨S48x512, .f32⟩
  | .local _ .vmem, ⟨9, _⟩ => ⟨S48x512, .f32⟩
  | .local _ .vmem, ⟨10, _⟩ => ⟨S512x512, .f32⟩
  | .local _ .vmem, ⟨11, _⟩ => ⟨S384x512, .f32⟩
  | .local _ .vmem, ⟨12, _⟩ => ⟨S1x384, .i32⟩
  | .local _ .vmem, ⟨13, _⟩ => ⟨S384x1, .i32⟩
  | .local _ .vmem, ⟨14, _⟩ => ⟨S384x64, .f32⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S512x1, .bf16⟩
  | .local _ .vmem, ⟨20, _⟩ => ⟨S1x1, .f32⟩
  | .local _ .vmem, ⟨21, _⟩ => ⟨S384x1, .f32⟩
  | .local _ .smem, ⟨0, _⟩ => ⟨S8x48, .i32⟩
  | .local _ .smem, ⟨1, _⟩ => ⟨S9, .i32⟩
  | _, _ => ⟨S8x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_call0_call0_c : Ref sig .tc := ⟨.hbm, 18, rfl⟩
abbrev main_call0_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v9 : Index := Scalar.indexCast arg0
  let c0_5 : Index := 0#32
  ![v9.toNat, 0]
def k0_off2 (i : grid0.Coords) : Fin 2 → Nat :=
  let arg0 : BitVec 32 := BitVec.ofNat 32 (i 0).val
  let v11 : Index := Scalar.indexCast arg0
  let c47 : Index := 47#32
  ![v11.toNat, 47]
def k0_off3 (v10 : BitVec 32) : Fin 1 → Nat :=
  let c1_i32 : BitVec 32 := 1#32
  let v13 : BitVec 32 := Scalar.addi v10 c1_i32
  let v14 : Index := Scalar.indexCast v13
  ![v14.toNat]

def k0_off4 (v10 : BitVec 32) : Fin 2 → Nat :=
  let c64_i32 : BitVec 32 := 64#32
  let v18 : BitVec 32 := Scalar.muli v10 c64_i32
  let v19 : Index := Scalar.indexCast v18
  let c0_6 : Index := 0#32
  ![v19.toNat, 0]

def k0_chk1 (v10 : BitVec 32) : Prop :=
  (∀ a, (k0_off3 v10) a + S1.size a ≤ S9.size a) ∧
  (∀ a, (k0_off4 v10) a + S64x512.size a ≤ S512x512.size a)
theorem k0_off3_inb : ∀ (v10 : BitVec 32) (k0_hw1 : k0_chk1 v10), ∀ a, (k0_off3 v10) a + S1.size a ≤ S9.size a := fun v10 k0_hw1 => k0_hw1.1
theorem k0_off4_inb : ∀ (v10 : BitVec 32) (k0_hw1 : k0_chk1 v10), ∀ a, (k0_off4 v10) a + S64x512.size a ≤ S512x512.size a := fun v10 k0_hw1 => k0_hw1.2

def k0_off5 (v12 : BitVec 32) : Fin 2 → Nat :=
  let c64_i32_7 : BitVec 32 := 64#32
  let v21 : BitVec 32 := Scalar.muli v12 c64_i32_7
  let v22 : Index := Scalar.indexCast v21
  let c0_8 : Index := 0#32
  ![v22.toNat, 0]

def k0_chk2 (v12 : BitVec 32) : Prop :=
  (∀ a, (k0_off5 v12) a + S64x512.size a ≤ S512x512.size a)
theorem k0_off5_inb : ∀ (v12 : BitVec 32) (k0_hw2 : k0_chk2 v12), ∀ a, (k0_off5 v12) a + S64x512.size a ≤ S512x512.size a := fun v12 k0_hw2 => k0_hw2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x48x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S8x48 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S9 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S48x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

abbrev stage1_0 : Fin 1 → Memref sig .tc .vmem S384x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x384 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S384x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S384x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S512x1 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S384x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S8x64x256 : Shape := ⟨3, ![8, 64, 256]⟩
abbrev S8x64 : Shape := ⟨2, ![8, 64]⟩
abbrev S384x64x256 : Shape := ⟨3, ![384, 64, 256]⟩
abbrev S384x64 : Shape := ⟨2, ![384, 64]⟩
abbrev S8 : Shape := ⟨1, ![8]⟩
abbrev S384 : Shape := ⟨1, ![384]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S384x1 : Shape := ⟨2, ![384, 1]⟩
abbrev S1x1 : Shape := ⟨2, ![1, 1]⟩
abbrev S384x64x512 : Shape := ⟨3, ![384, 64, 512]⟩
abbrev S1x1x512 : Shape := ⟨3, ![1, 1, 512]⟩
abbrev S384x64x1 : Shape := ⟨3, ![384, 64, 1]⟩
abbrev S384x512 : Shape := ⟨2, ![384, 512]⟩
abbrev S1x512 : Shape := ⟨2, ![1, 512]⟩
abbrev S1x384 : Shape := ⟨2, ![1, 384]⟩
abbrev S8x1 : Shape := ⟨2, ![8, 1]⟩
abbrev S8x384 : Shape := ⟨2, ![8, 384]⟩

abbrev nBuf : Space → Nat
  | .hbm => 132
  | .vmem => 0
  | .smem => 0
  | _ => 0

abbrev hbmTy0_0 (i : Nat) : BufTy := match i % 128 with
  | 0 => ⟨S8x64x256, .f32⟩
  | 1 => ⟨S8x64, .i1⟩
  | 2 => ⟨S384x64x256, .f32⟩
  | 3 => ⟨S384x64, .i1⟩
  | 4 => ⟨S8, .i32⟩
  | 5 => ⟨S384, .i32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x1, .f32⟩
  | 13 => ⟨S1, .f32⟩
  | 14 => ⟨S_, .i32⟩
  | 15 => ⟨S384, .i32⟩
  | 16 => ⟨S384, .i1⟩
  | 17 => ⟨S_, .i32⟩
  | 18 => ⟨S384, .i32⟩
  | 19 => ⟨S384, .i32⟩
  | 20 => ⟨S384, .i32⟩
  | 21 => ⟨S384x1, .i32⟩
  | 22 => ⟨S1, .i32⟩
  | 23 => ⟨S_, .i32⟩
  | 24 => ⟨S384x1, .i32⟩
  | 25 => ⟨S384x1, .i1⟩
  | 26 => ⟨S1x1, .i32⟩
  | 27 => ⟨S384x1, .i32⟩
  | 28 => ⟨S384x1, .i1⟩
  | 29 => ⟨S384x1, .i1⟩
  | 30 => ⟨S_, .i1⟩
  | 31 => ⟨S384, .i1⟩
  | 32 => ⟨S384x64x256, .f32⟩
  | 33 => ⟨S384x64x256, .i1⟩
  | 34 => ⟨S_, .f32⟩
  | 35 => ⟨S384x64x256, .f32⟩
  | 36 => ⟨S384x64x256, .f32⟩
  | 37 => ⟨S384x64x512, .f32⟩
  | 38 => ⟨S384x64x512, .f32⟩
  | 39 => ⟨S1x1x512, .f32⟩
  | 40 => ⟨S384x64x512, .f32⟩
  | 41 => ⟨S384x64x512, .f32⟩
  | 42 => ⟨S_, .f32⟩
  | 43 => ⟨S384x64x512, .f32⟩
  | 44 => ⟨S384x64x512, .f32⟩
  | 45 => ⟨S384x64x512, .f32⟩
  | 46 => ⟨S384x64x512, .f32⟩
  | 47 => ⟨S384x64x512, .i1⟩
  | 48 => ⟨S384x64x512, .f32⟩
  | 49 => ⟨S384x64x512, .f32⟩
  | 50 => ⟨S384x64x512, .f32⟩
  | 51 => ⟨S384x64x512, .f32⟩
  | 52 => ⟨S384x64x512, .f32⟩
  | 53 => ⟨S384x64x512, .f32⟩
  | 54 => ⟨S384x64x512, .f32⟩
  | 55 => ⟨S384x64x512, .f32⟩
  | 56 => ⟨S384x64x512, .f32⟩
  | 57 => ⟨S384x64x512, .f32⟩
  | 58 => ⟨S384x64x512, .f32⟩
  | 59 => ⟨S1x1x512, .f32⟩
  | 60 => ⟨S384x64x512, .f32⟩
  | 61 => ⟨S384x64x512, .f32⟩
  | 62 => ⟨S384x64x1, .i1⟩
  | 63 => ⟨S384x64x1, .f32⟩
  | 64 => ⟨S384x64x512, .f32⟩
  | 65 => ⟨S384x64x512, .f32⟩
  | 66 => ⟨S_, .f32⟩
  | 67 => ⟨S384x512, .f32⟩
  | 68 => ⟨S384x512, .f32⟩
  | 69 => ⟨S1x512, .f32⟩
  | 70 => ⟨S384x512, .f32⟩
  | 71 => ⟨S384x512, .f32⟩
  | 72 => ⟨S_, .f32⟩
  | 73 => ⟨S384x512, .f32⟩
  | 74 => ⟨S384x512, .f32⟩
  | 75 => ⟨S384x512, .f32⟩
  | 76 => ⟨S384x512, .f32⟩
  | 77 => ⟨S384x512, .i1⟩
  | 78 => ⟨S384x512, .f32⟩
  | 79 => ⟨S384x512, .f32⟩
  | 80 => ⟨S384x512, .f32⟩
  | 81 => ⟨S384x512, .f32⟩
  | 82 => ⟨S384x512, .f32⟩
  | 83 => ⟨S384x512, .f32⟩
  | 84 => ⟨S384x512, .f32⟩
  | 85 => ⟨S384x512, .f32⟩
  | 86 => ⟨S384x512, .f32⟩
  | 87 => ⟨S384x512, .f32⟩
  | 88 => ⟨S384x1, .f32⟩
  | 89 => ⟨S1x1, .f32⟩
  | 90 => ⟨S384x1, .f32⟩
  | 91 => ⟨S384x1, .f32⟩
  | 92 => ⟨S384, .f32⟩
  | 93 => ⟨S1x384, .i32⟩
  | 94 => ⟨S8, .i32⟩
  | 95 => ⟨S8x1, .i32⟩
  | 96 => ⟨S8x384, .i32⟩
  | 97 => ⟨S8x384, .i32⟩
  | 98 => ⟨S8x384, .i1⟩
  | 99 => ⟨S1x384, .f32⟩
  | 100 => ⟨S_, .f32⟩
  | 101 => ⟨S_, .f32⟩
  | 102 => ⟨S8x384, .f32⟩
  | 103 => ⟨S8x384, .f32⟩
  | 104 => ⟨S8x384, .f32⟩
  | 105 => ⟨S_, .f32⟩
  | 106 => ⟨S8, .f32⟩
  | 107 => ⟨S_, .i32⟩
  | 108 => ⟨S384, .i32⟩
  | 109 => ⟨S384, .i1⟩
  | 110 => ⟨S_, .i32⟩
  | 111 => ⟨S384, .i32⟩
  | 112 => ⟨S384, .i32⟩
  | 113 => ⟨S384, .i32⟩
  | 114 => ⟨S384x1, .i32⟩
  | 115 => ⟨S384, .f32⟩
  | 116 => ⟨S384, .f32⟩
  | 117 => ⟨S384, .f32⟩
  | 118 => ⟨S_, .f32⟩
  | 119 => ⟨S8, .f32⟩
  | 120 => ⟨S384x1, .i32⟩
  | 121 => ⟨S8, .f32⟩
  | 122 => ⟨S_, .i32⟩
  | 123 => ⟨S384, .i32⟩
  | 124 => ⟨S384, .i1⟩
  | 125 => ⟨S_, .i32⟩
  | 126 => ⟨S384, .i32⟩
  | 127 => ⟨S384, .i32⟩
  | _ => ⟨S8x64x256, .f32⟩

abbrev hbmTy0_1 (i : Nat) : BufTy := match i % 128 with
  | 0 => ⟨S384, .i32⟩
  | 1 => ⟨S384x1, .i32⟩
  | 2 => ⟨S384, .f32⟩
  | 3 => ⟨S384, .f32⟩
  | _ => ⟨S8x64x256, .f32⟩

abbrev hbmTy (i : Nat) : BufTy := match i / 128 with
  | 0 => hbmTy0_0 i
  | 1 => hbmTy0_1 i
  | _ => ⟨S8x64x256, .f32⟩

abbrev bufTy : (tb : Table) → Fin (tcTables nBuf tb) → BufTy
  | .hbm, ⟨i, _⟩ => hbmTy i
  | _, _ => ⟨S8x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_0 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v37 : Ref sig .tc := ⟨.hbm, 104, rfl⟩
abbrev main_cst_1 : Ref sig .tc := ⟨.hbm, 105, rfl⟩
abbrev main_v38 : Ref sig .tc := ⟨.hbm, 106, rfl⟩
abbrev main_c : Ref sig .tc := ⟨.hbm, 107, rfl⟩
abbrev main_v39 : Ref sig .tc := ⟨.hbm, 108, rfl⟩
abbrev main_v40 : Ref sig .tc := ⟨.hbm, 109, rfl⟩
abbrev main_c_2 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_cst_3 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_c_4 : Ref sig .tc := ⟨.hbm, 122, rfl⟩
abbrev main_v51 : Ref sig .tc := ⟨.hbm, 123, rfl⟩
abbrev main_v52 : Ref sig .tc := ⟨.hbm, 124, rfl⟩
abbrev main_c_5 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩

abbrev nD : Nat := 1
abbrev τ : Topo := Topo.v7x

variable {F : FTy → Type} [FloatOps F]
-- ==== Proof.KernelIdeal.Pool.lean ====
/- The pooling call: what one grid step computes, that its body computes it, and the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one step leaves in its output block -/

/-- A word of the states' table names a state: the entry after it in the table of row ranges, and its 64 rows of the
    projected states, exist. -/
abbrev Named (w : BitVec 32) : Prop := k0_chk1 w ∧ k0_chk2 w

/-- A number below eight names a state. -/
theorem named_of (n : Fin 8) : Named (BitVec.ofNat 32 n.val) := by
  revert n; decide

/-- The states of the step's first and last rows. -/
def firstState (i : grid0.Coords) (x6 : Vec F S8x48 .i32) : BitVec 32 :=
  x6 ((Rect.unit (s := S8x48) (k0_off1 i) S1x1.size (k0_off1_inb i)).idx (Shape.Idx.first (numel1_S1x1.symm ▸ Nat.one_pos)))
def lastState (i : grid0.Coords) (x6 : Vec F S8x48 .i32) : BitVec 32 :=
  x6 ((Rect.unit (s := S8x48) (k0_off2 i) S1x1.size (k0_off2_inb i)).idx (Shape.Idx.first (numel1_S1x1.symm ▸ Nat.one_pos)))

/-- The row at which the rows of the first state end. -/
def endWord (x7 : Vec F S9 .i32) (w : BitVec 32) (h : Named w) : BitVec 32 :=
  x7 ((Rect.unit (s := S9) (k0_off3 w) S1.size (k0_off3_inb w h.1)).idx (Shape.Idx.first (numel1_S1.symm ▸ Nat.one_pos)))

/-- The projected states: 64 rows for each of the eight. -/
def projected (x1 : Vec F S256x512 .bf16) (x3 : Vec F S512x256 .f32) : Vec F S512x512 .f32 :=
  View.canon [⟨(Rect.unit (s := S512x512) ![0, 0] S512x512.size inb_S512x512_S512x512_0_0), k0_pay2 (View.ld x3 (Rect.unit (s := S512x256) ![0, 0] S512x256.size inb_S512x256_S512x256_0_0)) (View.ld x1 (Rect.unit (s := S256x512) ![0, 0] S256x512.size inb_S256x512_S256x512_0_0))⟩]

/-- The rows of the projection that belong to the first state, -/
def firstRows (x1 : Vec F S256x512 .bf16) (x3 : Vec F S512x256 .f32) (w : BitVec 32) (h : Named w) : Vec F S64x512 .f32 :=
  View.ld (projected x1 x3) (Rect.unit (s := S512x512) (k0_off4 w) S64x512.size (k0_off4_inb w h.1))
/-- and to the last. -/
def lastRows (x1 : Vec F S256x512 .bf16) (x3 : Vec F S512x256 .f32) (w : BitVec 32) (h : Named w) : Vec F S64x512 .f32 :=
  View.ld (projected x1 x3) (Rect.unit (s := S512x512) (k0_off5 w) S64x512.size (k0_off5_inb w h.2))

/-- The pooled rows of the step, where both state words name a state. -/
def pooledOf (i : grid0.Coords) (x0 : Vec F S3072x256 .f32) (x1 : Vec F S256x512 .bf16) (x2 : Vec F S256x512 .bf16) (x3 : Vec F S512x256 .f32) (x4 : Vec F S1x512 .f32) (x5 : Vec F S1x48x64 .f32) (x6 : Vec F S8x48 .i32) (x7 : Vec F S9 .i32)
    (h0 : Named (firstState i x6)) (h1 : Named (lastState i x6)) : Vec F S48x512 .f32 :=
  View.canon [⟨(Rect.unit (s := S48x512) ![0, 0] S48x512.size inb_S48x512_S48x512_0_0),
    k0_pay1 (k0_pay3 i (endWord x7 (firstState i x6) h0) (firstRows x1 x3 (firstState i x6) h0) (lastRows x1 x3 (lastState i x6) h1))
      (k0_pay4 (View.ld x0 (Rect.unit (s := S3072x256) ![0, 0] S3072x256.size inb_S3072x256_S3072x256_0_0))) (View.ld x2 (Rect.unit (s := S256x512) ![0, 0] S256x512.size inb_S256x512_S256x512_0_0))
      (View.ld x4 (Rect.unit (s := S1x512) ![0, 0] S1x512.size inb_S1x512_S1x512_0_0)) (View.ld x5 (Rect.unit (s := S1x48x64) ![0, 0, 0] S1x48x64.size inb_S1x48x64_S1x48x64_0_0_0))⟩]

open Classical in
/-- The same as a total function of the blocks. -/
def pooled (i : grid0.Coords) (x0 : Vec F S3072x256 .f32) (x1 : Vec F S256x512 .bf16) (x2 : Vec F S256x512 .bf16) (x3 : Vec F S512x256 .f32) (x4 : Vec F S1x512 .f32) (x5 : Vec F S1x48x64 .f32) (x6 : Vec F S8x48 .i32) (x7 : Vec F S9 .i32) : Vec F S48x512 .f32 :=
  if h : Named (firstState i x6) ∧ Named (lastState i x6) then pooledOf i x0 x1 x2 x3 x4 x5 x6 x7 h.1 h.2 else View.canon []

/-- One store over the whole block covers it. -/
theorem covers0 (p : Vec F S48x512 .f32) (y : S48x512.Idx) :
    ∃ pc ∈ ([⟨(Rect.unit (s := S48x512) ![0, 0] S48x512.size inb_S48x512_S48x512_0_0), p⟩] : List (View.Piece (Elt F) S48x512 .f32)), y ∈ pc.1.set :=
  View.cover_of_tiled [⟨(Rect.unit (s := S48x512) ![0, 0] S48x512.size inb_S48x512_S48x512_0_0), p⟩] S48x512.size (by rfl) y

/-! ## The body -/

set_option maxHeartbeats 1000000 in
/-- The body, on whole staging buffers and with every word of the states' table naming a state, leaves the inputs as they
    are and `pooled` of them in the output block. -/
theorem poolBody (c : Dev nD) (E : Set ℕ) (i : grid0.Coords) (arg1 : Memref sig .tc .vmem S3072x256 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x48x64 .f32) (harg6 : arg6.IsWhole) (arg7 : Memref sig .tc .smem S8x48 .i32) (harg7 : arg7.IsWhole) (arg8 : Memref sig .tc .smem S9 .i32) (harg8 : arg8.IsWhole) (arg9 : Memref sig .tc .vmem S48x512 .f32) (harg9 : arg9.IsWhole) (arg10 : Memref sig .tc .vmem S512x512 .f32) (harg10 : arg10.IsWhole)
    (x0 : Vec F S3072x256 .f32) (x1 : Vec F S256x512 .bf16) (x2 : Vec F S256x512 .bf16) (x3 : Vec F S512x256 .f32) (x4 : Vec F S1x512 .f32) (x5 : Vec F S1x48x64 .f32) (x6 : Vec F S8x48 .i32) (x7 : Vec F S9 .i32) (hx : ∀ y, Named (x6 y)) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (pooled i x0 x1 x2 x3 x4 x5 x6 x7) ∗ (∃ d, owns (c : Thread nD τ) arg10 fullShare d)) -∗ K ⟨⟩))
      ⊢ wp frame (wpE (defs₀ (F := F)) Variants.none c none) E (cc0__pool_body i arg1 harg1 arg2 harg2 arg3 harg3 arg4 harg4 arg5 harg5 arg6 harg6 arg7 harg7 arg8 harg8 arg9 harg9 arg10 harg10) K := by
  simp only [cc0__pool_body_eq_skeleton]; unfold cc0__pool_body_skel
  simp only [k0_part1_eq_skeleton]
  rw [pooled, dif_pos ⟨hx _, hx _⟩]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec (disch := first | exact (hx _).1 | exact (hx _).2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (covers0 _)).trans ?_
    unfold pooledOf firstRows lastRows projected
    delta poolBody.sl.r_3 poolBody.sl.r_4 poolBody.sl.r_2 poolBody.sl.v20 poolBody.sl.v23 poolBody.sl.f
    rw [View.readAt_writes_junk_eq_canon, View.readAt_writes_junk_eq_canon]
    delta poolBody.sl.H9_1 poolBody.sl.r poolBody.sl.r_1
    rfl
  iexists _, _; isplitr
  swap; · iexact H9
  ipureintro; rfl

section Data

/-! ## The pipeline's proof data -/

-- the arrays' contents when the call is entered
variable (V : (c : Dev nD) → (b : Ref sig .tc) → Buf (Elt F) ((c : Thread nD τ).loc b))

/-- The block of window `w` at point `t`, as the array was entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after point `t`. -/
def left0 (c : Dev nD) (t : Fin cfg0.N) : Vec F S48x512 .f32 :=
  pooled (grid0.coords t) (blk0 V c 0 t) (blk0 V c 1 t) (blk0 V c 2 t) (blk0 V c 3 t) (blk0 V c 4 t) (blk0 V c 5 t) (blk0 V c 6 t) (blk0 V c 7 t)

/-- The inputs keep their blocks, the output gets `left0`; nothing else is touched. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => left0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = left0 V c t := by dsimp only [dat0]

/-- Each input's staging buffer holds its block before the body, whether or not it was fetched at this point. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [A_eq0]; try rfl) t d).trans
    (by unfold Dat.fetched Dat.blockOf blk0; rw [A_eq0]; try rfl)
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [A_eq0]; try rfl) t d).trans
    (by unfold Dat.fetched Dat.blockOf blk0; rw [A_eq0]; try rfl)
theorem before0_6 (c : Dev nD) (t : Fin cfg0.N) (d) : (dat0 V c).before 6 t d = blk0 V c 6 t :=
  ((dat0 V c).before_in_eq_fetched 6 rfl (fun _ => rfl) (fun _ _ _ => rfl)
    (fun t => by rw [after0_6]; unfold Dat.blockOf blk0; rw [A_eq0]; try rfl) t d).trans
    (by unfold Dat.fetched Dat.blockOf blk0; rw [A_eq0]; try rfl)
theorem before0_7 (c : Dev nD) (t : Fin cfg0.N) (d) : (dat0 V c).before 7 t d = blk0 V c 7 t :=
  ((dat0 V c).before_in_eq_fetched 7 rfl (fun _ => rfl) (fun _ _ _ => rfl)
    (fun t => by rw [after0_7]; unfold Dat.blockOf blk0; rw [A_eq0]; try rfl) t d).trans
    (by unfold Dat.fetched Dat.blockOf blk0; rw [A_eq0]; try rfl)

/-! ## The body obligation -/

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d)))

/-- and what it returns. -/
def post0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t))

/-- What the pipeline leaves alone, with the scratch buffer named. -/
theorem rest0_eq (c : Dev nD) :
    (Pipeline.ΦA spec0 c : sProp 𝕄)
      = iprop(iprop((∃ d, owns (c : Thread nD τ) (Memref.whole cc0_scratch0) fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f)) ∗ (∃ r, prngReg c r)) := by
  unfold Pipeline.ΦA; rw [scopedRest0_eq]; simp only [owns_whole]; try rfl

set_option maxHeartbeats 800000 in
/-- The body at any point, where the states' table names states. -/
theorem sound0 (c : Dev nD) (hV : ∀ y, Named (V c (Pipeline.arrRef spec0 6) y)) (t : Fin cfg0.N) :
    pre0 V c t ⊢ wp frame (wpE (defs₀ (F := F)) Variants.none c none) Set.univ (bodyAt0 t) (fun _ => post0 V c t) := by
  have hx : ∀ y, Named (blk0 V c 6 t y) := fun y => by
    unfold blk0; rw [View.read_apply]; exact hV _
  unfold pre0 post0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  rw [show (dat0 V c).Φ t.castSucc = Pipeline.ΦA spec0 c from rfl, rest0_eq]
  unfold left0
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (poolBody c Set.univ (grid0.coords t) _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) hx _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]; · iexact HS
  iintro ⟨H0, H1, H2, H3, H4, H5, H6, H7, H8, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row0 (t : Fin cfg0.N) :
    defs₀ (F := F) .tc cfg0.body (cfg0.bodyArgs t (cfg0.slots t)) = bodyAt0 t := by
  unfold defs₀; rw [Defs.onTc_tc]

theorem obligation0 (c : Dev nD) (hV : ∀ y, Named (V c (Pipeline.arrRef spec0 6) y)) :
    BodyObligation (dat0 (F := F) V c) (defs₀ (F := F)) Variants.none () Set.univ := fun t => by
  rw [bigSep_W0, bigSep_W0, row0]
  exact triple_restated (sound0 V c hV t) rfl .rfl fun _ => .rfl

end Data

end Cert.KernelIdeal.Run

end
-- ==== Proof.KernelIdeal.Tail.lean ====
/- The tail call: what it computes, that its body computes it, and the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the tail leaves in its output, from its ten inputs. -/
def tailOf (x0 : Vec F S384x512 .f32) (x1 : Vec F S1x384 .i32) (x2 : Vec F S384x1 .i32) (x3 : Vec F S384x64 .f32) (x4 : Vec F S512x512 .bf16) (x5 : Vec F S1x512 .f32) (x6 : Vec F S512x512 .bf16) (x7 : Vec F S1x512 .f32) (x8 : Vec F S512x1 .bf16) (x9 : Vec F S1x1 .f32) : Vec F S384x1 .f32 :=
  View.canon [⟨(Rect.unit (s := S384x1) ![0, 0] S384x1.size inb_S384x1_S384x1_0_0),
    k1_pay1 (k1_pay2 (View.ld x3 (Rect.unit (s := S384x64) ![0, 0] S384x64.size inb_S384x64_S384x64_0_0)) (View.ld x0 (Rect.unit (s := S384x512) ![0, 0] S384x512.size inb_S384x512_S384x512_0_0)) (View.ld x4 (Rect.unit (s := S512x512) ![0, 0] S512x512.size inb_S512x512_S512x512_0_0)) (View.ld x5 (Rect.unit (s := S1x512) ![0, 0] S1x512.size inb_S1x512_S1x512_0_0)) (View.ld x6 (Rect.unit (s := S512x512) ![0, 0] S512x512.size inb_S512x512_S512x512_0_0)) (View.ld x7 (Rect.unit (s := S1x512) ![0, 0] S1x512.size inb_S1x512_S1x512_0_0)))
      (View.ld x8 (Rect.unit (s := S512x1) ![0, 0] S512x1.size inb_S512x1_S512x1_0_0)) (View.ld x9 (Rect.unit (s := S1x1) ![0, 0] S1x1.size inb_S1x1_S1x1_0_0)) (View.ld x1 (Rect.unit (s := S1x384) ![0, 0] S1x384.size inb_S1x384_S1x384_0_0)) (View.ld x2 (Rect.unit (s := S384x1) ![0, 0] S384x1.size inb_S384x1_S384x1_0_0))⟩]

/-- One store over the whole block covers it. -/
theorem covers1 (p : Vec F S384x1 .f32) (y : S384x1.Idx) :
    ∃ pc ∈ ([⟨(Rect.unit (s := S384x1) ![0, 0] S384x1.size inb_S384x1_S384x1_0_0), p⟩] : List (View.Piece (Elt F) S384x1 .f32)), y ∈ pc.1.set :=
  View.cover_of_tiled [⟨(Rect.unit (s := S384x1) ![0, 0] S384x1.size inb_S384x1_S384x1_0_0), p⟩] S384x1.size (by rfl) y

set_option maxHeartbeats 1000000 in
/-- The body, on whole staging buffers, leaves the inputs as they are and `tailOf` of them in the output. -/
theorem tailBody (c : Dev nD) (E : Set ℕ) (arg0 : Memref sig .tc .vmem S384x512 .f32) (harg0 : arg0.IsWhole) (arg1 : Memref sig .tc .vmem S1x384 .i32) (harg1 : arg1.IsWhole) (arg2 : Memref sig .tc .vmem S384x1 .i32) (harg2 : arg2.IsWhole) (arg3 : Memref sig .tc .vmem S384x64 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x1 .bf16) (harg8 : arg8.IsWhole) (arg9 : Memref sig .tc .vmem S1x1 .f32) (harg9 : arg9.IsWhole) (arg10 : Memref sig .tc .vmem S384x1 .f32) (harg10 : arg10.IsWhole)
    (x0 : Vec F S384x512 .f32) (x1 : Vec F S1x384 .i32) (x2 : Vec F S384x1 .i32) (x3 : Vec F S384x64 .f32) (x4 : Vec F S512x512 .bf16) (x5 : Vec F S1x512 .f32) (x6 : Vec F S512x512 .bf16) (x7 : Vec F S1x512 .f32) (x8 : Vec F S512x1 .bf16) (x9 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (tailOf x0 x1 x2 x3 x4 x5 x6 x7 x8 x9)) -∗ K ⟨⟩))
      ⊢ wp frame (wpE (defs₀ (F := F)) Variants.none c none) E (cc1__tail_body arg0 harg0 arg1 harg1 arg2 harg2 arg3 harg3 arg4 harg4 arg5 harg5 arg6 harg6 arg7 harg7 arg8 harg8 arg9 harg9 arg10 harg10) K := by
  simp only [cc1__tail_body_eq_skeleton]; unfold cc1__tail_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (covers1 _)

section Data

/-! ## The pipeline's proof data -/

-- the arrays' contents when the call is entered
variable (V : (c : Dev nD) → (b : Ref sig .tc) → Buf (Elt F) ((c : Thread nD τ).loc b))

/-- The block of window `w` at point `t`, as the array was entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after point `t`. -/
def left1 (c : Dev nD) (t : Fin cfg1.N) : Vec F S384x1 .f32 :=
  tailOf (blk1 V c 0 t) (blk1 V c 1 t) (blk1 V c 2 t) (blk1 V c 3 t) (blk1 V c 4 t) (blk1 V c 5 t) (blk1 V c 6 t) (blk1 V c 7 t) (blk1 V c 8 t) (blk1 V c 9 t)

/-- The inputs keep their blocks, the output gets `left1`; nothing else is touched. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => left1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = left1 V c t := by dsimp only [dat1]

/-- Each input's staging buffer holds its block before the body, whether or not it was fetched at this point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [A_eq1]; try rfl) t d).trans
    (by unfold Dat.fetched Dat.blockOf blk1; rw [A_eq1]; try rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rw [A_eq1]; try rfl) t d).trans
    (by unfold Dat.fetched Dat.blockOf blk1; rw [A_eq1]; try rfl)
theorem before1_8 (c : Dev nD) (t : Fin cfg1.N) (d) : (dat1 V c).before 8 t d = blk1 V c 8 t :=
  ((dat1 V c).before_in_eq_fetched 8 rfl (fun _ => rfl) (fun _ _ _ => rfl)
    (fun t => by rw [after1_8]; unfold Dat.blockOf blk1; rw [A_eq1]; try rfl) t d).trans
    (by unfold Dat.fetched Dat.blockOf blk1; rw [A_eq1]; try rfl)
theorem before1_9 (c : Dev nD) (t : Fin cfg1.N) (d) : (dat1 V c).before 9 t d = blk1 V c 9 t :=
  ((dat1 V c).before_in_eq_fetched 9 rfl (fun _ => rfl) (fun _ _ _ => rfl)
    (fun t => by rw [after1_9]; unfold Dat.blockOf blk1; rw [A_eq1]; try rfl) t d).trans
    (by unfold Dat.fetched Dat.blockOf blk1; rw [A_eq1]; try rfl)

/-! ## The body obligation -/

abbrev st1_0 (t : Fin cfg1.N) : Memref sig .tc .vmem S384x512 .f32 := win1_0.stage (cfg1.slots t 0)
abbrev st1_1 (t : Fin cfg1.N) : Memref sig .tc .vmem S1x384 .i32 := win1_1.stage (cfg1.slots t 1)
abbrev st1_2 (t : Fin cfg1.N) : Memref sig .tc .vmem S384x1 .i32 := win1_2.stage (cfg1.slots t 2)
abbrev st1_3 (t : Fin cfg1.N) : Memref sig .tc .vmem S384x64 .f32 := win1_3.stage (cfg1.slots t 3)
abbrev st1_4 (t : Fin cfg1.N) : Memref sig .tc .vmem S512x512 .bf16 := win1_4.stage (cfg1.slots t 4)
abbrev st1_5 (t : Fin cfg1.N) : Memref sig .tc .vmem S1x512 .f32 := win1_5.stage (cfg1.slots t 5)
abbrev st1_6 (t : Fin cfg1.N) : Memref sig .tc .vmem S512x512 .bf16 := win1_6.stage (cfg1.slots t 6)
abbrev st1_7 (t : Fin cfg1.N) : Memref sig .tc .vmem S1x512 .f32 := win1_7.stage (cfg1.slots t 7)
abbrev st1_8 (t : Fin cfg1.N) : Memref sig .tc .vmem S512x1 .bf16 := win1_8.stage (cfg1.slots t 8)
abbrev st1_9 (t : Fin cfg1.N) : Memref sig .tc .vmem S1x1 .f32 := win1_9.stage (cfg1.slots t 9)
abbrev st1_10 (t : Fin cfg1.N) : Memref sig .tc .vmem S384x1 .f32 := win1_10.stage (cfg1.slots t 10)

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  unfold left1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tailBody c Set.univ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row1 (t : Fin cfg1.N) :
    defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Data

end Cert.KernelIdeal.Run

end
-- ==== Proof.KernelIdeal.Run.lean ====
/- The whole program: its host stretches and its two calls in order, what every buffer holds at each boundary, and the run. -/
module

public import proofs.«01_k».proof.Proof.KernelIdeal.Pool
public import proofs.«01_k».proof.Proof.KernelIdeal.Tail
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev args : List (Ref sig .tc) := [main_arg0, main_arg1, main_arg2, main_arg3, main_arg4, main_arg5, main_arg6, main_arg7, main_arg8, main_arg9, main_arg10, main_arg11, main_arg12, main_arg13]

/-! ## The host stretches: which references each writes -/

theorem fresh_hostOps0 : (hostOps0 : List (HloOp τ sig (Elt F))).Forall fun op => op.fresh = ∅ := by
  simp only [List.Forall]; repeat' constructor
abbrev out_hostOps0 : List (Ref sig .tc) := [main_v0, main_v1, main_c, main_v2]
theorem writes_hostOps0 : (hostOps0 : List (HloOp τ sig (Elt F))).Forall fun op => op.writes ⊆ (out_hostOps0.map (Proc.devRef (τ := τ) .tc)).toFinset :=
  StableHlo.forall_writes_sub_of_map rfl
theorem args_hostOps0 : ∀ a ∈ args, a ∉ out_hostOps0 := ListAll.forall_mem_of_all_decide (by decide +kernel)

theorem fresh_hostOps0_1 : (hostOps0_1 : List (HloOp τ sig (Elt F))).Forall fun op => op.fresh = ∅ := by
  simp only [List.Forall]; repeat' constructor
abbrev out_hostOps0_1 : List (Ref sig .tc) := [main_call0_call0_c, main_call0_call0_v0, main_v3]
theorem writes_hostOps0_1 : (hostOps0_1 : List (HloOp τ sig (Elt F))).Forall fun op => op.writes ⊆ (out_hostOps0_1.map (Proc.devRef (τ := τ) .tc)).toFinset :=
  StableHlo.forall_writes_sub_of_map rfl
theorem args_hostOps0_1 : ∀ a ∈ args, a ∉ out_hostOps0_1 := ListAll.forall_mem_of_all_decide (by decide +kernel)

theorem fresh_hostOps0_2 : (hostOps0_2 : List (HloOp τ sig (Elt F))).Forall fun op => op.fresh = ∅ := by
  simp only [List.Forall]; repeat' constructor
abbrev out_hostOps0_2 : List (Ref sig .tc) := [main_v4, main_v5, main_v6, main_v7, main_v8, main_v9, main_v10, main_v11, main_v12]
theorem writes_hostOps0_2 : (hostOps0_2 : List (HloOp τ sig (Elt F))).Forall fun op => op.writes ⊆ (out_hostOps0_2.map (Proc.devRef (τ := τ) .tc)).toFinset :=
  StableHlo.forall_writes_sub_of_map rfl
theorem args_hostOps0_2 : ∀ a ∈ args, a ∉ out_hostOps0_2 := ListAll.forall_mem_of_all_decide (by decide +kernel)

theorem fresh_hostOps1 : (hostOps1 : List (HloOp τ sig (Elt F))).Forall fun op => op.fresh = ∅ := by
  simp only [List.Forall]; repeat' constructor
abbrev out_hostOps1 : List (Ref sig .tc) := [main_v14, main_v15, main_v16, main_v17, main_v18, main_v19, main_v20, main_v21]
theorem writes_hostOps1 : (hostOps1 : List (HloOp τ sig (Elt F))).Forall fun op => op.writes ⊆ (out_hostOps1.map (Proc.devRef (τ := τ) .tc)).toFinset :=
  StableHlo.forall_writes_sub_of_map rfl
theorem args_hostOps1 : ∀ a ∈ args, a ∉ out_hostOps1 := ListAll.forall_mem_of_all_decide (by decide +kernel)

theorem fresh_hostOps2 : (hostOps2 : List (HloOp τ sig (Elt F))).Forall fun op => op.fresh = ∅ := by
  simp only [List.Forall]; repeat' constructor
abbrev out_hostOps2 : List (Ref sig .tc) := [main_v23]
theorem writes_hostOps2 : (hostOps2 : List (HloOp τ sig (Elt F))).Forall fun op => op.writes ⊆ (out_hostOps2.map (Proc.devRef (τ := τ) .tc)).toFinset :=
  StableHlo.forall_writes_sub_of_map rfl
theorem args_hostOps2 : ∀ a ∈ args, a ∉ out_hostOps2 := ListAll.forall_mem_of_all_decide (by decide +kernel)

/-! ## What the buffers hold at each boundary -/

/-- At launch. -/
abbrev W0 : Dev nD → Valuation τ sig (Elt F) := fun c b => (s₀ m ρ).mem ((c : Dev nD), b)
theorem W0_args (c : Dev nD) : ∀ a ∈ args, W0 m ρ c (Proc.devRef .tc a) = m ((c : Thread nD τ).loc a) := fun _ _ => rfl

/-- After `hostOps0`. -/
abbrev W1 : Dev nD → Valuation τ sig (Elt F) := fun c => StableHlo.after hostOps0 (W0 m ρ c)
theorem W1_of (c : Dev nD) (r : Ref sig .tc) (h : r ∉ out_hostOps0) : W1 m ρ c (Proc.devRef .tc r) = W0 m ρ c (Proc.devRef .tc r) :=
  StableHlo.after_of_writes_sub hostOps0 _ writes_hostOps0 h
theorem W1_args (c : Dev nD) : ∀ a ∈ args, W1 m ρ c (Proc.devRef .tc a) = m ((c : Thread nD τ).loc a) :=
  fun a ha => (W1_of m ρ c a (args_hostOps0 a ha)).trans (W0_args m ρ c a ha)

/-- After `hostOps0_1`. -/
abbrev W2 : Dev nD → Valuation τ sig (Elt F) := fun c => StableHlo.after hostOps0_1 (W1 m ρ c)
theorem W2_of (c : Dev nD) (r : Ref sig .tc) (h : r ∉ out_hostOps0_1) : W2 m ρ c (Proc.devRef .tc r) = W1 m ρ c (Proc.devRef .tc r) :=
  StableHlo.after_of_writes_sub hostOps0_1 _ writes_hostOps0_1 h
theorem W2_args (c : Dev nD) : ∀ a ∈ args, W2 m ρ c (Proc.devRef .tc a) = m ((c : Thread nD τ).loc a) :=
  fun a ha => (W2_of m ρ c a (args_hostOps0_1 a ha)).trans (W1_args m ρ c a ha)

/-- After `hostOps0_2`. -/
abbrev W3 : Dev nD → Valuation τ sig (Elt F) := fun c => StableHlo.after hostOps0_2 (W2 m ρ c)
theorem W3_of (c : Dev nD) (r : Ref sig .tc) (h : r ∉ out_hostOps0_2) : W3 m ρ c (Proc.devRef .tc r) = W2 m ρ c (Proc.devRef .tc r) :=
  StableHlo.after_of_writes_sub hostOps0_2 _ writes_hostOps0_2 h
theorem W3_args (c : Dev nD) : ∀ a ∈ args, W3 m ρ c (Proc.devRef .tc a) = m ((c : Thread nD τ).loc a) :=
  fun a ha => (W3_of m ρ c a (args_hostOps0_2 a ha)).trans (W2_args m ρ c a ha)

abbrev V3 : (c : Dev nD) → (b : Ref sig .tc) → Buf (Elt F) ((c : Thread nD τ).loc b) := fun c b => W3 m ρ c b
/-- After call 0: its output array as the pipeline leaves it, all else as before. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_off (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_off m ρ c r fun w e => hw ⟨w, e⟩
theorem inputs0 : ∀ a ∈ args, ∀ w : Fin cfg0.W, Pipeline.arrRef spec0 w = a → (cfg0.win w).isOut = false :=
  ListAll.forall_mem_of_all_decide (by decide +kernel)
theorem W4_args (c : Dev nD) : ∀ a ∈ args, W4 m ρ c (Proc.devRef .tc a) = m ((c : Thread nD τ).loc a) :=
  fun a ha => (W4_of m ρ c a (inputs0 a ha)).trans (W3_args m ρ c a ha)
abbrev V4 : (c : Dev nD) → (b : Ref sig .tc) → Buf (Elt F) ((c : Thread nD τ).loc b) := fun c b => W4 m ρ c b
theorem exits0 (c : Dev nD) (w : Fin cfg0.W) : (dat0 (V3 m ρ) c).arrAt w cfg0.N = V4 m ρ c (Pipeline.arrRef spec0 w) :=
  (W4_arr m ρ c w).symm
theorem rests0 (c : Dev nD) : ∀ b, b ∉ Finset.univ.image (Pipeline.arrRef spec0) → V4 m ρ c b = V3 m ρ c b :=
  fun b hb => W4_off m ρ c b fun w e => hb (Finset.mem_image.mpr ⟨w, Finset.mem_univ _, e⟩)

/-- After `hostOps1`. -/
abbrev W5 : Dev nD → Valuation τ sig (Elt F) := fun c => StableHlo.after hostOps1 (W4 m ρ c)
theorem W5_of (c : Dev nD) (r : Ref sig .tc) (h : r ∉ out_hostOps1) : W5 m ρ c (Proc.devRef .tc r) = W4 m ρ c (Proc.devRef .tc r) :=
  StableHlo.after_of_writes_sub hostOps1 _ writes_hostOps1 h
theorem W5_args (c : Dev nD) : ∀ a ∈ args, W5 m ρ c (Proc.devRef .tc a) = m ((c : Thread nD τ).loc a) :=
  fun a ha => (W5_of m ρ c a (args_hostOps1 a ha)).trans (W4_args m ρ c a ha)

abbrev V5 : (c : Dev nD) → (b : Ref sig .tc) → Buf (Elt F) ((c : Thread nD τ).loc b) := fun c b => W5 m ρ c b
/-- After call 1: its output array as the pipeline leaves it, all else as before. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_off (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_off m ρ c r fun w e => hw ⟨w, e⟩
theorem inputs1 : ∀ a ∈ args, ∀ w : Fin cfg1.W, Pipeline.arrRef spec1 w = a → (cfg1.win w).isOut = false :=
  ListAll.forall_mem_of_all_decide (by decide +kernel)
theorem W6_args (c : Dev nD) : ∀ a ∈ args, W6 m ρ c (Proc.devRef .tc a) = m ((c : Thread nD τ).loc a) :=
  fun a ha => (W6_of m ρ c a (inputs1 a ha)).trans (W5_args m ρ c a ha)
abbrev V6 : (c : Dev nD) → (b : Ref sig .tc) → Buf (Elt F) ((c : Thread nD τ).loc b) := fun c b => W6 m ρ c b
theorem exits1 (c : Dev nD) (w : Fin cfg1.W) : (dat1 (V5 m ρ) c).arrAt w cfg1.N = V6 m ρ c (Pipeline.arrRef spec1 w) :=
  (W6_arr m ρ c w).symm
theorem rests1 (c : Dev nD) : ∀ b, b ∉ Finset.univ.image (Pipeline.arrRef spec1) → V6 m ρ c b = V5 m ρ c b :=
  fun b hb => W6_off m ρ c b fun w e => hb (Finset.mem_image.mpr ⟨w, Finset.mem_univ _, e⟩)

/-- After `hostOps2`. -/
abbrev W7 : Dev nD → Valuation τ sig (Elt F) := fun c => StableHlo.after hostOps2 (W6 m ρ c)
theorem W7_of (c : Dev nD) (r : Ref sig .tc) (h : r ∉ out_hostOps2) : W7 m ρ c (Proc.devRef .tc r) = W6 m ρ c (Proc.devRef .tc r) :=
  StableHlo.after_of_writes_sub hostOps2 _ writes_hostOps2 h
theorem W7_args (c : Dev nD) : ∀ a ∈ args, W7 m ρ c (Proc.devRef .tc a) = m ((c : Thread nD τ).loc a) :=
  fun a ha => (W7_of m ρ c a (args_hostOps2 a ha)).trans (W6_args m ρ c a ha)

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- The pooling call, where the states' table names states. -/
def reg0 (hn : ∀ c y, Named (V3 m ρ c (Pipeline.arrRef spec0 6) y)) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V3 m ρ) c (hn c)).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (exits0 m ρ c) (rests0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tail call. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (exits1 m ρ c) (rests1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program in order. -/
abbrev segs (hn : ∀ c y, Named (V3 m ρ c (Pipeline.arrRef spec0 6) y)) : List (Pipeline.Seg (pcfgs (F := F)) adm (pdats m ρ) () defs₀ 𝒱₀ L lv) :=
  [ .host (hseg hostOps0 hostOps0_sub fresh_hostOps0 (W0 m ρ)),
    .host (hseg hostOps0_1 hostOps0_1_sub fresh_hostOps0_1 (W1 m ρ)),
    .host (hseg hostOps0_2 hostOps0_2_sub fresh_hostOps0_2 (W2 m ρ)),
    .region (reg0 m ρ hn),
    .host (hseg hostOps1 hostOps1_sub fresh_hostOps1 (W4 m ρ)),
    .region (reg1 m ρ),
    .host (hseg hostOps2 hostOps2_sub fresh_hostOps2 (W6 m ρ)) ]
theorem main_segs (hn) (c : Dev nD) : main (F := F) c = Pipeline.Seg.run (segs m ρ hn) := (main_chain c).trans (by chain_rfl)

theorem no_unscoped : ∀ sm : SemLoc sig, sm.isScoped .tc = true := by decide

set_option backward.isDefEq.respectTransparency.types false in
/-- The run: where the states' table names states, every execution ends with every buffer at its last boundary's contents
    and every semaphore at zero. -/
theorem run (hn : ∀ c y, Named (V3 m ρ c (Pipeline.arrRef spec0 6) y)) :
    θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ hn)
    (fun c Q => by rw [main_segs m ρ hn c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The states' words as the pooling call is entered: the launch's, reshaped. -/
theorem words_at (c : Dev nD) :
    V3 m ρ c main_v12 = shapeCast S8x48 (m ((c : Thread nD τ).loc main_arg5)) shapeCasts_S384_S8x48 := by
  show StableHlo.after hostOps0_2 (StableHlo.after hostOps0_1 (StableHlo.after hostOps0 (W0 m ρ c))) (Proc.devRef .tc main_v12) = _
  after_results
  rfl

/-- The arguments end as they began and the result is the last boundary's. -/
theorem ends (hn : ∀ (c : Dev nD) y, Named (m ((c.tc : Thread nD τ).loc main_arg5) y)) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) ∧ ∀ c : Dev nD, r.2.mem ((c.tc : Thread nD τ).loc main_v23) = W7 m ρ c (Proc.devRef .tc main_v23)) := by
  refine (θ_run defs _ _).mono (fun r h => ⟨⟨fun c => ?_, h.2⟩, fun c => h.1 c _ (mem_uc main_v23 (by decide))⟩)
    (run m ρ fun c y => by
      show Named (V3 m ρ c main_v12 y)
      rw [words_at]
      exact hn c _)
  refine ⟨?_, ?_, ?_, ?_, ?_, ?_, ?_, ?_, ?_, ?_, ?_, ?_, ?_, ?_⟩
  · exact (h.1 c _ (mem_uc main_arg0 (by decide))).trans (W7_args m ρ c main_arg0 (by decide))
  · exact (h.1 c _ (mem_uc main_arg1 (by decide))).trans (W7_args m ρ c main_arg1 (by decide))
  · exact (h.1 c _ (mem_uc main_arg2 (by decide))).trans (W7_args m ρ c main_arg2 (by decide))
  · exact (h.1 c _ (mem_uc main_arg3 (by decide))).trans (W7_args m ρ c main_arg3 (by decide))
  · exact (h.1 c _ (mem_uc main_arg4 (by decide))).trans (W7_args m ρ c main_arg4 (by decide))
  · exact (h.1 c _ (mem_uc main_arg5 (by decide))).trans (W7_args m ρ c main_arg5 (by decide))
  · exact (h.1 c _ (mem_uc main_arg6 (by decide))).trans (W7_args m ρ c main_arg6 (by decide))
  · exact (h.1 c _ (mem_uc main_arg7 (by decide))).trans (W7_args m ρ c main_arg7 (by decide))
  · exact (h.1 c _ (mem_uc main_arg8 (by decide))).trans (W7_args m ρ c main_arg8 (by decide))
  · exact (h.1 c _ (mem_uc main_arg9 (by decide))).trans (W7_args m ρ c main_arg9 (by decide))
  · exact (h.1 c _ (mem_uc main_arg10 (by decide))).trans (W7_args m ρ c main_arg10 (by decide))
  · exact (h.1 c _ (mem_uc main_arg11 (by decide))).trans (W7_args m ρ c main_arg11 (by decide))
  · exact (h.1 c _ (mem_uc main_arg12 (by decide))).trans (W7_args m ρ c main_arg12 (by decide))
  · exact (h.1 c _ (mem_uc main_arg13 (by decide))).trans (W7_args m ρ c main_arg13 (by decide))

end Cert.KernelIdeal.Run

end
-- ==== Proof.Words.lean ====
/- The precondition `states_named` read at one row: every word names a state. -/
module

public import proofs.«01_k».proof.Proof.Gen.Pre_states_named
public import Idealize.ShloMosaic.Lib.Claim

@[expose] public section

namespace Cert.Words

open Idealize.ShloMosaic

/-- Booleans as bits: conjunction. -/
theorem and_bit (p q : Bool) : IntOp.andi (BitVec.ofBool p) (BitVec.ofBool q) = BitVec.ofBool (p && q) := by
  cases p <;> cases q <;> rfl
theorem bit_one (p : Bool) : BitVec.ofBool p = 1#1 ↔ p = true := by cases p <;> decide

/-- A conjunction of bits is one where both are. -/
theorem and_one (p q : BitVec 1) : IntOp.andi p q = 1#1 ↔ p = 1#1 ∧ q = 1#1 := by
  revert p q; decide

/-- A word between 0 and 8 is one of the eight. -/
theorem below_eight (w : BitVec 32) (h0 : (0#32).sle w = true) (h8 : w.slt 8#32 = true) : ∃ n : Fin 8, w = BitVec.ofNat 32 n.val := by
  have hlt : w.toNat < 8 := by
    simp only [BitVec.sle, BitVec.slt, decide_eq_true_eq, BitVec.toInt, BitVec.toNat_ofNat] at h0 h8
    omega
  exact ⟨⟨w.toNat, hlt⟩, by simp⟩

section
open Cert.Pre_states_named
variable {F : FTy → Type} [FloatOps F]

/-- Where `states_named` holds, every word names a state. -/
theorem named_of_states [Cert.Pre_states_named.Facts] (a0 : FVec F S8x64x256 .f32) (a1 : IVec S8x64 1) (a2 : FVec F S384x64x256 .f32) (a3 : IVec S384x64 1) (a4 : IVec S8 32) (a5 : IVec S384 32) (a6 : FVec F S512x512 .f32) (a7 : FVec F S512 .f32) (a8 : FVec F S512x512 .f32) (a9 : FVec F S512 .f32) (a10 : FVec F S512x512 .f32) (a11 : FVec F S512 .f32) (a12 : FVec F S512x1 .f32) (a13 : FVec F S1 .f32)
    (h : fn a0 a1 a2 a3 a4 a5 a6 a7 a8 a9 a10 a11 a12 a13 = fun _ => 1#1) (y : S384.Idx) : ∃ n : Fin 8, a5 y = BitVec.ofNat 32 n.val := by
  have e := congrFun h y
  simp only [fn, andi, cmpi, broadcastInDim, constantI, IntOp.cmpi, and_bit, bit_one, Bool.and_eq_true] at e
  exact below_eight _ e.1 e.2
end

end Cert.Words

end
-- ==== Proof.Score.lean ====
/- The scores in real numbers: what every state's successor scores, how the scores of one state's successors are
   normalised, and the laws by which two ways of computing them agree. -/
module

public import Idealize.ShloMosaic.PureOps.Ideal
public import Idealize.ShloMosaic.PureOps.Ideal.Laws
public import Idealize.ShloMosaic.Lib.Pointwise

@[expose] public section

noncomputable section

namespace Cert.Score

open Idealize.ShloMosaic

/-! ## Extended reals that are real -/

/-- The coercion of a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a larger number. -/
theorem coe_max (x y : ℝ) : max (x : EReal) (y : EReal) = ((max x y : ℝ) : EReal) :=
  (EReal.coe_strictMono.monotone.map_max).symm

/-- What lies strictly below the top in size is real. -/
theorem real_of_abs (x : EReal) (h : max x (-x) < ⊤) : x = ((x.toReal : ℝ) : EReal) := by
  induction x with
  | bot => simp at h
  | top => simp at h
  | coe r => rfl

/-! ## The activation -/

/-- `x` times the hyperbolic tangent of its softplus, as both programs spell it. -/
def act (x : EReal) : EReal :=
  x * Ideal.tanh (if x ≠ x then x else max x 0 + Ideal.log1p (Ideal.exp (-max x (-x))))

/-- The same on real numbers. -/
def actR (x : ℝ) : ℝ := x * Real.tanh (max x 0 + Real.log (1 + Real.exp (-max x (-x))))

theorem act_coe (x : ℝ) : act (x : EReal) = ((actR x : ℝ) : EReal) := by
  have hp : ¬ (1 + Real.exp (-max x (-x)) ≤ 0) := by have := Real.exp_pos (-max x (-x)); linarith
  unfold act actR
  rw [if_neg (by simp), ← EReal.coe_neg, coe_max, ← EReal.coe_neg, Ideal.exp_coe, Ideal.log1p, ← EReal.coe_one,
    ← EReal.coe_add, Ideal.log_coe, if_neg hp, ← EReal.coe_zero, coe_max, ← EReal.coe_add, Ideal.tanh_coe,
    ← EReal.coe_mul]

/-! ## Normalising the scores of one state's successors -/

/-- The weight of row `s` among the rows of its state, the scores taken relative to `m`. -/
def share (l : Fin 384 → ℝ) (id : Fin 384 → Fin 8) (m : ℝ) (s : Fin 384) : ℝ :=
  Real.exp (l s - m) / ∑ t, if id t = id s then Real.exp (l t - m) else 0

/-- The scores of a state's rows have a positive sum. -/
theorem total_pos (l : Fin 384 → ℝ) (id : Fin 384 → Fin 8) (m : ℝ) (s : Fin 384) :
    0 < ∑ t, if id t = id s then Real.exp (l t - m) else 0 :=
  Finset.sum_pos' (fun t _ => by split <;> positivity) ⟨s, Finset.mem_univ s, by rw [if_pos rfl]; positivity⟩

/-- The weight does not depend on what the scores are taken relative to. -/
theorem share_eq (l : Fin 384 → ℝ) (id : Fin 384 → Fin 8) (m n : ℝ) (s : Fin 384) : share l id m s = share l id n s := by
  have h : ∀ t, Real.exp (l t - m) = Real.exp (n - m) * Real.exp (l t - n) := fun t => by
    rw [← Real.exp_add]; congr 1; ring
  have hs : (∑ t, if id t = id s then Real.exp (l t - m) else 0)
      = Real.exp (n - m) * ∑ t, if id t = id s then Real.exp (l t - n) else 0 := by
    rw [Finset.mul_sum]
    refine Finset.sum_congr rfl fun t _ => ?_
    split
    · exact h t
    · rw [mul_zero]
  unfold share
  rw [hs, h s, mul_div_mul_left _ _ (Real.exp_pos _).ne']

/-- A running maximum from the bottom over finitely many values, one of which is not the bottom, is one of them. -/
theorem fold_max_mem {ι : Type} [Fintype ι] (f : ι → EReal) (i : ι) (hi : f i ≠ ⊥) :
    ∃ j, f j ≠ ⊥ ∧ Finset.univ.fold max ⊥ f = f j := by
  have he : Finset.univ.fold max ⊥ f = Finset.univ.sup f := rfl
  obtain ⟨j, -, hj⟩ := Finset.exists_mem_eq_sup Finset.univ ⟨i, Finset.mem_univ i⟩ f
  refine ⟨j, fun hb => hi ?_, he.trans hj⟩
  exact le_bot_iff.mp ((Finset.le_sup (Finset.mem_univ i)).trans (hj.trans hb).le)

/-- One way: every score relative to one `m`; the state's total picked out by indicators after the division. -/
theorem share_one (l : Fin 384 → ℝ) (id : Fin 384 → Fin 8) (m : ℝ) (s : Fin 384) :
    Ideal.exp ((l s : EReal) - (m : EReal)) * ∑ b : Fin 8, (if b = id s then (1 : EReal) else 0) *
        Ideal.div 1 (∑ t, (if b = id t then (1 : EReal) else 0) * Ideal.exp ((l t : EReal) - (m : EReal)))
      = ((share l id m s : ℝ) : EReal) := by
  rw [Finset.sum_eq_single (id s) (fun b _ hb => by rw [if_neg hb, zero_mul]) (fun h => absurd (Finset.mem_univ _) h),
    if_pos rfl, one_mul]
  have ht : ∀ t : Fin 384, (if id s = id t then (1 : EReal) else 0) * Ideal.exp ((l t : EReal) - (m : EReal))
      = ((if id t = id s then Real.exp (l t - m) else 0 : ℝ) : EReal) := fun t => by
    rw [← EReal.coe_sub, Ideal.exp_coe]
    by_cases h : id t = id s
    · rw [if_pos h.symm, if_pos h, one_mul]
    · rw [if_neg (Ne.symm h), if_neg h, zero_mul, EReal.coe_zero]
  rw [Finset.sum_congr rfl fun t _ => ht t, ← coe_sum, ← EReal.coe_one, Ideal.div_coe (total_pos l id m s).ne',
    ← EReal.coe_mul, ← EReal.coe_sub, Ideal.exp_coe, ← EReal.coe_mul, share]
  congr 1
  ring

/-- The other: every score relative to a number `M` of its own state; the state's total summed and divided by. -/
theorem share_two (l : Fin 384 → ℝ) (id : Fin 384 → Fin 8) (M : Fin 8 → EReal) (s : Fin 384) (m : ℝ) (hm : M (id s) = (m : EReal)) :
    Ideal.div (Ideal.exp ((l s : EReal) - M (id s)))
        (0 + ∑ t ∈ Finset.univ.filter (fun t => id t = id s), Ideal.exp ((l t : EReal) - M (id t)))
      = ((share l id m s : ℝ) : EReal) := by
  have ht : ∀ t ∈ Finset.univ.filter (fun t => id t = id s), Ideal.exp ((l t : EReal) - M (id t))
      = ((Real.exp (l t - m) : ℝ) : EReal) := fun t h => by
    rw [(Finset.mem_filter.mp h).2, hm, ← EReal.coe_sub, Ideal.exp_coe]
  rw [Finset.sum_congr rfl ht, ← coe_sum, zero_add, Finset.sum_filter, hm, Ideal.div_coe (total_pos l id m s).ne',
    ← EReal.coe_sub, Ideal.exp_coe, ← EReal.coe_mul, share]
  congr 1
  ring

/-! ## The scores -/

variable (dense : Fin 8 → Fin 64 → Fin 256 → ℝ) (succ : Fin 384 → Fin 64 → Fin 256 → ℝ) (mask : Fin 384 → Fin 64 → ℝ)
  (id : Fin 384 → Fin 8) (W1 W2 W3 : Fin 512 → Fin 512 → ℝ) (b1 b2 b3 w4 : Fin 512 → ℝ) (b4 : ℝ)

/-- The first layer's input for object `o` of row `s`: the state's object and the successor's, each through its half of
    the weights. -/
def pre (s : Fin 384) (o : Fin 64) (h : Fin 512) : ℝ :=
  (∑ d : Fin 256, dense (id s) o d * W1 ⟨d, by omega⟩ h + ∑ d : Fin 256, succ s o d * W1 ⟨256 + d, by omega⟩ h) + b1 h

/-- The objects' differences, summed over the real objects of row `s`. -/
def agg (s : Fin 384) (j : Fin 512) : ℝ :=
  ∑ o, (∑ h, actR (pre dense succ id W1 b1 s o h) * W2 h j + b2 j) * mask s o

/-- The score of row `s`. -/
def score (s : Fin 384) : ℝ :=
  ∑ k, actR (∑ j, agg dense succ mask id W1 W2 b1 b2 s j * W3 j k + b3 k) * w4 k + b4

/-- Pooling before the second layer: the layer is affine, so it may be applied to the pooled activations, its bias
    counted once for every real object. -/
theorem agg_pooled (s : Fin 384) (j : Fin 512) :
    ∑ h, (∑ o, actR (pre dense succ id W1 b1 s o h) * mask s o) * W2 h j + (∑ o, mask s o) * b2 j
      = agg dense succ mask id W1 W2 b1 b2 s j := by
  unfold agg
  simp only [add_mul, Finset.sum_add_distrib, Finset.sum_mul]
  congr 1
  · rw [Finset.sum_comm]
    exact Finset.sum_congr rfl fun o _ => Finset.sum_congr rfl fun h _ => by ring
  · exact Finset.sum_congr rfl fun o _ => mul_comm _ _

end Cert.Score

end
-- ==== Proof.Given.lean ====
/- What `well_formed` says of the arguments, read element by element: the floats are real numbers, the words name states,
   the rows of a state are those between its bounds, and a block of forty-eight rows holds at most two states. -/
module

public import proofs.«01_k».proof.Pre_well_formed
public import proofs.«01_k».proof.Proof.Words
public import proofs.«01_k».proof.Proof.Score
public import Idealize.ShloMosaic.Lib.Pointwise

@[expose] public section

set_option maxRecDepth 16384

noncomputable section

namespace Cert.Given

open Cert.Pre_well_formed Idealize.ShloMosaic Cert.Words

/-- The side conditions of the precondition's operations. -/
instance facts : Cert.Pre_well_formed.Facts where
  bcast_S_S8x64x256 := by decide
  reducesTo_S8x64x256_S_d0_1_2 := by decide
  h_S_ := by decide
  bcast_S_S384x64x256 := by decide
  reducesTo_S384x64x256_S_d0_1_2 := by decide
  bcast_S_S512x512 := by decide
  reducesTo_S512x512_S_d0_1 := by decide
  bcast_S_S512 := by decide
  reducesTo_S512_S_d0 := by decide
  bcast_S_S512x1 := by decide
  reducesTo_S512x1_S_d0_1 := by decide
  bcast_S_S1 := by decide
  reducesTo_S1_S_d0 := by decide
  bcast_S_S_ := by decide
  reduceWindows_S8_S8_w8s1p7_0 := by decide
  bcast_S384_S384x1_0 := by decide
  bcast_S8_S1x8_1 := by decide
  bcast_S1x8_S384x8_0_1 := by decide
  bcast_S384x1_S384x8_0_1 := by decide
  reducesTo_S384x8_S384_d1 := by decide
  bcast_S_S384 := by decide
  shapeCasts_S384_S8x48 := by decide
  slices_S8x48_S8x1_0_0 := by decide
  bcast_S8x1_S8x48_0_1 := by decide
  slices_S8x48_S8x1_0_47 := by decide
  shapeCasts_S8x48_S384 := by decide

/-- A conjunction over an axis is one only where every term is. -/
theorem every {s t u : Shape} {axes : List (Fin s.rank)} (x : IVec s 1) (v : IVec u 1) (h : s.ReducesTo axes t) (hu : 0 < u.numel) (j : t.Idx)
    (e : Host.reduce IntOp.andi x v h hu j = 1#1) (i : s.Idx) (hi : h.drop i = j) : x i = 1#1 := by
  rw [Host.reduce_eq_fold] at e
  exact ((Finset.fold_op_rel_iff_and (op := IntOp.andi) (r := fun _ p => p = 1#1) (c := (1#1 : BitVec 1))
    (fun {_ p q} => and_one p q)).mp e).2 i (Finset.mem_filter.mpr ⟨Finset.mem_univ _, hi⟩)

/-- An argument whose sizes are all below the top is an array of reals. -/
theorem reals {s : Shape} {axes : List (Fin s.rank)} (x : FVec Ideal s .f32) (b : S_.BroadcastsInDim s (![] : Fin 0 → Fin s.rank))
    (h : s.ReducesTo axes S_) (hu : 0 < S_.numel) (v : IVec S_ 1) (j : S_.Idx)
    (e : Host.reduce IntOp.andi (cmpf .olt (Host.absf x) (broadcastInDim s ![] b (constant S_ .f32 0x7F800000#32))) v h hu j = 1#1) (i : s.Idx) :
    x i = (((x i).toReal : ℝ) : EReal) := by
  have hx := every _ v h hu j e i (funext fun a => a.elim0)
  have ht : Ideal.ofBits .f32 0x7F800000#32 = ⊤ := by simp [Ideal.ofBits, Ideal.ieee]
  have hl : FloatOps.cmpf (F := Ideal) (φ := .f32) .olt (max (x i) (-x i)) (Ideal.ofBits .f32 0x7F800000#32) = 1#1 := hx
  rw [ht] at hl
  refine Cert.Score.real_of_abs _ ?_
  by_contra hn
  have hz : Ideal.cmp .olt (max (x i) (-x i)) ⊤ = 1#1 := hl
  simp [Ideal.cmp, hn] at hz

/-- A comparison holds where its bit is one. -/
theorem bit_eq {n : Nat} (x y : BitVec n) : IntOp.cmpi .eq x y = 1#1 ↔ x = y :=
  (bit_one _).trans beq_iff_eq
theorem or_one (p q : BitVec 1) : IntOp.ori p q = 1#1 ↔ p = 1#1 ∨ q = 1#1 := by revert p q; decide

/-- What the last part reads: the words are below eight, and equal the first or the last word of their block. -/
theorem part4 (a5 : IVec S384 32) (p : IVec S_ 1) (q r : IVec S384 1) (s : Fin 384)
    (e : fn_part4 (F := Ideal) a5 p q r (ix1 s) = 1#1) : p ix0 = 1#1 ∧ q (ix1 s) = 1#1 ∧ r (ix1 s) = 1#1 ∧ (a5 (ix1 s)).slt 8#32 = true
      ∧ (a5 (ix1 s) = a5 (ix1 ⟨s.val / 48 * 48, by omega⟩) ∨ a5 (ix1 s) = a5 (ix1 ⟨s.val / 48 * 48 + 47, by omega⟩)) := by
  unfold fn_part4 at e
  pointwise at e
  simp only [and_one, or_one, bit_eq] at e
  exact ⟨e.2, e.1.1.1.1, e.1.1.1.2, (bit_one _).mp e.1.1.2, e.1.2⟩

/-- The bounds of the states' rows: the rows before the end of each state. -/
abbrev ends (a4 : IVec S8 32) : IVec S8 32 := fn_cumsum (F := Ideal) a4

/-- A row belongs to a state where its number lies between the state's bounds. -/
def Within (a4 : IVec S8 32) (s : Fin 384) (b : Fin 8) : Prop :=
  (IntOp.subi (ends a4 (ix1 b)) (a4 (ix1 b))).sle (BitVec.ofNat 32 s.val) = true ∧ (BitVec.ofNat 32 s.val).slt (ends a4 (ix1 b)) = true

/-- What the part before reads: a word names the state whose bounds hold the row. -/
theorem part3 (a4 : IVec S8 32) (a5 : IVec S384 32) (p : IVec S_ 1) (s : Fin 384)
    (e : fn_part3 (F := Ideal) a4 a5 p (ends a4) (ix1 s) = 1#1) :
    p ix0 = 1#1 ∧ (∀ b : Fin 8, a5 (ix1 s) = BitVec.ofNat 32 b.val ↔ Within a4 s b) ∧ (∃ n : Fin 8, a5 (ix1 s) = BitVec.ofNat 32 n.val)
      ∧ (a5 (ix1 s) = a5 (ix1 ⟨s.val / 48 * 48, by omega⟩) ∨ a5 (ix1 s) = a5 (ix1 ⟨s.val / 48 * 48 + 47, by omega⟩)) := by
  unfold fn_part3 at e
  obtain ⟨hp, hq, h0, h8, ht⟩ := part4 a5 p _ _ s e
  refine ⟨hp, fun b => ?_, below_eight _ ?_ h8, ht⟩
  · pointwise at hq
    have hb := ((Finset.fold_op_rel_iff_and (op := IntOp.andi) (r := fun _ p => p = 1#1) (c := (1#1 : BitVec 1))
      (fun {_ p q} => and_one p q)).mp hq).2 b (Finset.mem_univ b)
    rw [bit_eq] at hb
    rw [← bit_eq, hb, and_one]
    exact and_congr (bit_one _) (bit_one _)
  · exact (bit_one _).mp h0

section
variable (a0 : FVec Ideal S8x64x256 .f32) (a1 : IVec S8x64 1) (a2 : FVec Ideal S384x64x256 .f32) (a3 : IVec S384x64 1) (a4 : IVec S8 32) (a5 : IVec S384 32)
  (a6 : FVec Ideal S512x512 .f32) (a7 : FVec Ideal S512 .f32) (a8 : FVec Ideal S512x512 .f32) (a9 : FVec Ideal S512 .f32) (a10 : FVec Ideal S512x512 .f32)
  (a11 : FVec Ideal S512 .f32) (a12 : FVec Ideal S512x1 .f32) (a13 : FVec Ideal S1 .f32)

/-- An array of reals. -/
def AllReal {s : Shape} (x : FVec Ideal s .f32) : Prop := ∀ i, x i = (((x i).toReal : ℝ) : EReal)

/-- What the arguments are. -/
structure Is : Prop where
  dense : AllReal a0
  succ : AllReal a2
  w1 : AllReal a6
  b1 : AllReal a7
  w2 : AllReal a8
  b2 : AllReal a9
  w3 : AllReal a10
  b3 : AllReal a11
  w4 : AllReal a12
  b4 : AllReal a13
  named : ∀ s, ∃ n : Fin 8, a5 (ix1 s) = BitVec.ofNat 32 n.val
  bounds : ∀ (s : Fin 384) (b : Fin 8), a5 (ix1 s) = BitVec.ofNat 32 b.val ↔ Within a4 s b
  two : ∀ s : Fin 384, a5 (ix1 s) = a5 (ix1 ⟨s.val / 48 * 48, by omega⟩) ∨ a5 (ix1 s) = a5 (ix1 ⟨s.val / 48 * 48 + 47, by omega⟩)

theorem is_of (h : fn a0 a1 a2 a3 a4 a5 a6 a7 a8 a9 a10 a11 a12 a13 = fun _ => 1#1) : Is a0 a2 a4 a5 a6 a7 a8 a9 a10 a11 a12 a13 := by
  have e : ∀ s : Fin 384, _ := fun s => part3 a4 a5 _ s (congrFun h (ix1 s))
  have p := (e 0).1
  obtain ⟨p, r13⟩ := (and_one _ _).mp p
  obtain ⟨p, r12⟩ := (and_one _ _).mp p
  obtain ⟨p, r11⟩ := (and_one _ _).mp p
  obtain ⟨p, r10⟩ := (and_one _ _).mp p
  obtain ⟨p, r9⟩ := (and_one _ _).mp p
  obtain ⟨p, r8⟩ := (and_one _ _).mp p
  obtain ⟨p, r7⟩ := (and_one _ _).mp p
  obtain ⟨p, r6⟩ := (and_one _ _).mp p
  obtain ⟨p, r2⟩ := (and_one _ _).mp p
  obtain ⟨-, r0⟩ := (and_one _ _).mp p
  exact ⟨reals a0 _ _ _ _ _ r0, reals a2 _ _ _ _ _ r2, reals a6 _ _ _ _ _ r6, reals a7 _ _ _ _ _ r7, reals a8 _ _ _ _ _ r8,
    reals a9 _ _ _ _ _ r9, reals a10 _ _ _ _ _ r10, reals a11 _ _ _ _ _ r11, reals a12 _ _ _ _ _ r12, reals a13 _ _ _ _ _ r13,
    fun s => (e s).2.2.1, fun s => (e s).2.1, fun s => (e s).2.2.2⟩

/-- The state a word names. -/
def idOf (s : Fin 384) : Fin 8 := ⟨(a5 (ix1 s)).toNat % 8, Nat.mod_lt _ (by decide)⟩

theorem idOf_eq (h : ∀ s, ∃ n : Fin 8, a5 (ix1 s) = BitVec.ofNat 32 n.val) (s : Fin 384) : a5 (ix1 s) = BitVec.ofNat 32 (idOf a5 s).val := by
  obtain ⟨n, hn⟩ := h s
  show a5 (ix1 s) = BitVec.ofNat 32 ((a5 (ix1 s)).toNat % 8)
  rw [hn]
  clear hn; revert n; decide

/-- The mask as numbers. -/
def maskOf (s : Fin 384) (o : Fin 64) : ℝ := ((a3 (ix2 s o)).toNat : ℝ)

/-- The scores of the rows. -/
def scores (s : Fin 384) : ℝ :=
  Cert.Score.score (fun i o d => (a0 (ix3 i o d)).toReal) (fun s o d => (a2 (ix3 s o d)).toReal) (maskOf a3) (idOf a5)
    (fun d h => (a6 (ix2 d h)).toReal) (fun d h => (a8 (ix2 d h)).toReal) (fun d h => (a10 (ix2 d h)).toReal)
    (fun h => (a7 (ix1 h)).toReal) (fun h => (a9 (ix1 h)).toReal) (fun h => (a11 (ix1 h)).toReal)
    (fun d => (a12 (ix2 d 0)).toReal) (a13 (ix1 0)).toReal s

/-- The result: each row's weight among the rows of its state. -/
def answer : FVec Ideal S384 .f32 := fun i =>
  ((Cert.Score.share (scores a0 a2 a3 a5 a6 a7 a8 a9 a10 a11 a12 a13) (idOf a5) 0 (i 0) : ℝ) : EReal)
end

end Cert.Given

end
-- ==== Proof.KernelIdeal.PoolValue.lean ====
/- The pooled rows of one grid step, read at an element. -/
module

public import proofs.«01_k».proof.Proof.KernelIdeal.Pool
public import proofs.«01_k».proof.Proof.Given
public import Idealize.ShloMosaic.Lib.Pointwise
public import Idealize.ShloMosaic.Lib.Pipeline.ValueKit

@[expose] public section

set_option maxRecDepth 16384

noncomputable section

namespace Cert.KernelIdeal.Rows

open Cert.KernelIdeal Cert.KernelIdeal.Gen Cert.KernelIdeal.Run
open Idealize.ShloMosaic Cert.Score

variable (i : grid0.Coords) (x0 : Vec Ideal S3072x256 .f32) (x1 : Vec Ideal S256x512 .bf16) (x2 : Vec Ideal S256x512 .bf16)
  (x3 : Vec Ideal S512x256 .f32) (x4 : Vec Ideal S1x512 .f32) (x5 : Vec Ideal S1x48x64 .f32) (x6 : Vec Ideal S8x48 .i32) (x7 : Vec Ideal S9 .i32)

/-- The projected states. -/
theorem projected_at (y : Fin 512) (h : Fin 512) :
    projected x1 x3 (ix2 y h) = ∑ d : Fin 256, x3 (ix2 y d) * x1 (ix2 d h) := by
  unfold projected
  frame_out
  pointwise [k0_pay2]

/-- Where the 64 rows of a state start in the projection. -/
theorem off4 (n : Fin 8) : k0_off4 (BitVec.ofNat 32 n.val) = ![n.val * 64, 0] := by revert n; decide
theorem off5 (n : Fin 8) : k0_off5 (BitVec.ofNat 32 n.val) = ![n.val * 64, 0] := by revert n; decide
/-- Where a state's rows end, in the table of row ranges. -/
theorem off3 (n : Fin 8) : k0_off3 (BitVec.ofNat 32 n.val) = ![n.val + 1] := by revert n; decide

theorem firstRows_at (n : Fin 8) (w : BitVec 32) (hw : w = BitVec.ofNat 32 n.val) (hn : Named w) (o : Fin 64) (h : Fin 512) :
    firstRows x1 x3 w hn (ix2 o h) = ∑ d : Fin 256, x3 (ix2 ⟨n.val * 64 + o.val, by omega⟩ d) * x1 (ix2 d h) := by
  subst hw
  rw [← projected_at]
  show projected x1 x3 ((Rect.unit (s := S512x512) (k0_off4 _) S64x512.size _).idx (ix2 o h)) = _
  congr 1
  funext a
  refine Fin.ext ?_
  match a with
  | ⟨0, _⟩ =>
    show (k0_off4 _) 0 + 1 * o.val = n.val * 64 + o.val
    rw [off4]; show n.val * 64 + 1 * o.val = _; omega
  | ⟨1, _⟩ =>
    show (k0_off4 (BitVec.ofNat 32 n.val)) 1 + 1 * h.val = h.val
    rw [off4]; show 0 + 1 * h.val = _; omega

theorem lastRows_at (n : Fin 8) (w : BitVec 32) (hw : w = BitVec.ofNat 32 n.val) (hn : Named w) (o : Fin 64) (h : Fin 512) :
    lastRows x1 x3 w hn (ix2 o h) = ∑ d : Fin 256, x3 (ix2 ⟨n.val * 64 + o.val, by omega⟩ d) * x1 (ix2 d h) := by
  subst hw
  rw [← projected_at]
  show projected x1 x3 ((Rect.unit (s := S512x512) (k0_off5 _) S64x512.size _).idx (ix2 o h)) = _
  congr 1
  funext a
  refine Fin.ext ?_
  match a with
  | ⟨0, _⟩ =>
    show (k0_off5 _) 0 + 1 * o.val = n.val * 64 + o.val
    rw [off5]; show n.val * 64 + 1 * o.val = _; omega
  | ⟨1, _⟩ =>
    show (k0_off5 (BitVec.ofNat 32 n.val)) 1 + 1 * h.val = h.val
    rw [off5]; show 0 + 1 * h.val = _; omega

theorem endWord_at (n : Fin 8) (w : BitVec 32) (hw : w = BitVec.ofNat 32 n.val) (hn : Named w) :
    endWord x7 w hn = x7 (ix1 ⟨n.val + 1, by omega⟩) := by
  subst hw
  show x7 ((Rect.unit (s := S9) (k0_off3 _) S1.size _).idx _) = _
  congr 1
  funext a
  refine Fin.ext ?_
  match a with
  | ⟨0, _⟩ =>
    show (k0_off3 _) 0 + 1 * 0 = n.val + 1
    rw [off3]; rfl

theorem firstState_at : firstState i x6 = x6 (ix2 (i 0) 0) := by
  show x6 ((Rect.unit (s := S8x48) (k0_off1 i) S1x1.size _).idx _) = _
  have h0 : k0_off1 i = ![(i 0).val, 0] := by
    have : ∀ j : Fin 8, (![(Scalar.indexCast (BitVec.ofNat 32 j.val)).toNat, (0#32).toNat] : Fin 2 → ℕ) = ![j.val, 0] := by decide
    exact this (i 0)
  congr 1
  funext a
  refine Fin.ext ?_
  match a with
  | ⟨0, _⟩ =>
    show (k0_off1 i) 0 + 1 * 0 = (i 0).val
    rw [h0]; rfl
  | ⟨1, _⟩ =>
    show (k0_off1 i) 1 + 1 * 0 = 0
    rw [h0]; rfl

theorem lastState_at : lastState i x6 = x6 (ix2 (i 0) 47) := by
  show x6 ((Rect.unit (s := S8x48) (k0_off2 i) S1x1.size _).idx _) = _
  have h0 : k0_off2 i = ![(i 0).val, 47] := by
    have : ∀ j : Fin 8, (![(Scalar.indexCast (BitVec.ofNat 32 j.val)).toNat, (47#32).toNat] : Fin 2 → ℕ) = ![j.val, 47] := by decide
    exact this (i 0)
  congr 1
  funext a
  refine Fin.ext ?_
  match a with
  | ⟨0, _⟩ =>
    show (k0_off2 i) 0 + 1 * 0 = (i 0).val
    rw [h0]; rfl
  | ⟨1, _⟩ =>
    show (k0_off2 i) 1 + 1 * 0 = 47
    rw [h0]; rfl

/-- The activation, as this program spells it. -/
theorem act_spelt (x : EReal) : x * Ideal.tanh (if x ≠ x then x else max x 0
    + Ideal.log1p (Ideal.exp (0 - FloatOps.absf (F := Ideal) (φ := .f32) x))) = act x := by
  rw [zero_sub]; rfl

/-- A row's number as a word read signed. -/
theorem row_int (n : ℕ) (h : n < 384) : (BitVec.ofNat 32 n).toInt = (n : Int) := by
  rw [BitVec.toInt_eq_toNat_of_lt (by rw [BitVec.toNat_ofNat]; omega), BitVec.toNat_ofNat, Nat.mod_eq_of_lt (by omega)]

theorem block_word (k : Fin 8) : Scalar.muli (BitVec.ofNat 32 k.val) 48#32 = BitVec.ofNat 32 (k.val * 48) := by revert k; decide

/-- A row's number in its block against the rows left to the first state: no difference wraps. -/
theorem no_wrap (e : BitVec 32) (k : Fin 8) (r : Fin 48) (h : (BitVec.ofNat 32 (k.val * 48)).slt e = true) :
    IntOp.cmpi .slt (BitVec.ofNat 32 r.val) (Scalar.subi e (Scalar.muli (BitVec.ofNat 32 k.val) 48#32))
      = BitVec.ofBool ((BitVec.ofNat 32 (k.val * 48 + r.val)).slt e) := by
  rw [block_word]
  show BitVec.ofBool ((BitVec.ofNat 32 r.val).slt (e - BitVec.ofNat 32 (k.val * 48))) = _
  congr 1
  have hk := k.isLt
  have hr := r.isLt
  have he := BitVec.toInt_lt (x := e)
  rw [Bool.eq_iff_iff]
  simp only [BitVec.slt, decide_eq_true_eq, BitVec.toInt_sub] at h ⊢
  rw [row_int _ (by omega)] at h
  rw [row_int _ (by omega), row_int _ (by omega), row_int _ (by omega), Int.bmod_eq_of_le (by omega) (by omega)]
  push_cast
  omega

/-- The state whose projection a row takes is the row's own: its block holds at most two, the first and the last, and the
    rows before the first one's end are the first one's. -/
theorem picks (id : Fin 384 → Fin 8) (e a : Fin 8 → BitVec 32)
    (hb : ∀ (s : Fin 384) (b : Fin 8), id s = b ↔ (IntOp.subi (e b) (a b)).sle (BitVec.ofNat 32 s.val) = true ∧ (BitVec.ofNat 32 s.val).slt (e b) = true)
    (k : Fin 8) (r : Fin 48) (h2 : id ⟨k.val * 48 + r.val, by omega⟩ = id ⟨k.val * 48, by omega⟩ ∨ id ⟨k.val * 48 + r.val, by omega⟩ = id ⟨k.val * 48 + 47, by omega⟩)
    {α : Type} (P : Fin 8 → α) :
    Scalar.select (IntOp.cmpi .slt (BitVec.ofNat 32 r.val) (Scalar.subi (e (id ⟨k.val * 48, by omega⟩)) (Scalar.muli (BitVec.ofNat 32 k.val) 48#32)))
      (P (id ⟨k.val * 48, by omega⟩)) (P (id ⟨k.val * 48 + 47, by omega⟩)) = P (id ⟨k.val * 48 + r.val, by omega⟩) := by
  obtain ⟨hle, hlt⟩ := (hb ⟨k.val * 48, by omega⟩ _).mp rfl
  rw [no_wrap _ k r hlt]
  have hs : (BitVec.ofNat 32 (k.val * 48)).sle (BitVec.ofNat 32 (k.val * 48 + r.val)) = true := by
    have hk := k.isLt
    have hr := r.isLt
    simp only [BitVec.sle, decide_eq_true_eq]
    rw [row_int _ (by omega), row_int _ (by omega)]
    omega
  by_cases h : (BitVec.ofNat 32 (k.val * 48 + r.val)).slt (e (id ⟨k.val * 48, by omega⟩)) = true
  · rw [h]
    refine congrArg P ((hb ⟨k.val * 48 + r.val, by omega⟩ _).mpr ⟨?_, h⟩).symm
    simp only [BitVec.sle, decide_eq_true_eq] at hle hs ⊢
    exact hle.trans hs
  · rw [Bool.not_eq_true] at h
    rw [h]
    refine congrArg P (h2.resolve_left fun hf => ?_).symm
    rw [((hb _ _).mp hf).2] at h
    exact Bool.noConfusion h

/-- The rows of the step `k`: the activations of row `48 k + r`, summed over its real objects. -/
theorem pooled_at (k : Fin 8)
    (dense : Fin 8 → Fin 64 → Fin 256 → ℝ) (succ : Fin 384 → Fin 64 → Fin 256 → ℝ) (mask : Fin 384 → Fin 64 → ℝ)
    (id : Fin 384 → Fin 8) (W1 : Fin 512 → Fin 512 → ℝ) (b1 : Fin 512 → ℝ) (e a : Fin 8 → BitVec 32)
    (hb : ∀ (s : Fin 384) (b : Fin 8), id s = b ↔ (IntOp.subi (e b) (a b)).sle (BitVec.ofNat 32 s.val) = true ∧ (BitVec.ofNat 32 s.val).slt (e b) = true)
    (h2 : ∀ r : Fin 48, id ⟨k.val * 48 + r.val, by omega⟩ = id ⟨k.val * 48, by omega⟩ ∨ id ⟨k.val * 48 + r.val, by omega⟩ = id ⟨k.val * 48 + 47, by omega⟩)
    (e0 : ∀ (r : Fin 48) (o : Fin 64) d, x0 (ix2 ⟨r.val * 64 + o.val, by omega⟩ d) = ((succ ⟨k.val * 48 + r.val, by omega⟩ o d : ℝ) : EReal))
    (e1 : ∀ (d : Fin 256) h, x1 (ix2 d h) = ((W1 ⟨d.val, by omega⟩ h : ℝ) : EReal))
    (e2 : ∀ (d : Fin 256) h, x2 (ix2 d h) = ((W1 ⟨256 + d.val, by omega⟩ h : ℝ) : EReal))
    (e3 : ∀ (n : Fin 8) (o : Fin 64) d, x3 (ix2 ⟨n.val * 64 + o.val, by omega⟩ d) = ((dense n o d : ℝ) : EReal))
    (e4 : ∀ h, x4 (ix2 0 h) = ((b1 h : ℝ) : EReal))
    (e5 : ∀ (r : Fin 48) (o : Fin 64), x5 (ix3 0 r o) = ((mask ⟨k.val * 48 + r.val, by omega⟩ o : ℝ) : EReal))
    (e6 : ∀ r : Fin 48, x6 (ix2 k r) = BitVec.ofNat 32 (id ⟨k.val * 48 + r.val, by omega⟩).val)
    (e7 : ∀ n : Fin 8, x7 (ix1 ⟨n.val + 1, by omega⟩) = e n)
    (hk : (i 0).val = k.val) (r : Fin 48) (h : Fin 512) :
    pooled i x0 x1 x2 x3 x4 x5 x6 x7 (ix2 r h)
      = ((∑ o, actR (pre dense succ id W1 b1 ⟨k.val * 48 + r.val, by omega⟩ o h) * mask ⟨k.val * 48 + r.val, by omega⟩ o : ℝ) : EReal) := by
  have hf : firstState i x6 = BitVec.ofNat 32 (id ⟨k.val * 48, by omega⟩).val := by
    rw [firstState_at, show i 0 = k from Fin.ext hk]; exact e6 0
  have hl : lastState i x6 = BitVec.ofNat 32 (id ⟨k.val * 48 + 47, by omega⟩).val := by
    rw [lastState_at, show i 0 = k from Fin.ext hk]; exact e6 47
  have h0 : Run.Named (firstState i x6) := hf ▸ named_of _
  have h1 : Run.Named (lastState i x6) := hl ▸ named_of _
  rw [pooled, dif_pos ⟨h0, h1⟩]
  unfold pooledOf
  frame_out
  pointwise [k0_pay1, k0_pay3, k0_pay4]
  simp only [act_spelt, firstRows_at x1 x3 _ _ hf, lastRows_at x1 x3 _ _ hl, endWord_at x7 _ _ hf, hk, e0, e1, e2, e3, e4, e5, e7,
    ← EReal.coe_mul, ← coe_sum]
  have hp : ∀ o : Fin 64, _ := fun o => picks id e a hb k r (h2 r)
    (fun n => ((∑ d : Fin 256, dense n o d * W1 ⟨d.val, by omega⟩ h : ℝ) : EReal))
  simp only [hp, ← EReal.coe_add, act_coe, ← EReal.coe_mul, ← coe_sum]
  refine congrArg _ (Finset.sum_congr rfl fun o _ => ?_)
  unfold pre
  rw [add_comm (∑ d : Fin 256, succ _ o d * _)]

end Cert.KernelIdeal.Rows

end
-- ==== Proof.KernelIdeal.TailValue.lean ====
/- The last call's block, read at a row: the weight of that row's score among the scores of its state. -/
module

public import proofs.«01_k».proof.Proof.KernelIdeal.Tail
public import proofs.«01_k».proof.Proof.Score
public import Idealize.ShloMosaic.Lib.Pointwise
public import Idealize.ShloMosaic.Lib.Pipeline.ValueKit

@[expose] public section

set_option maxRecDepth 16384

noncomputable section

namespace Cert.KernelIdeal.Weights

open Cert.KernelIdeal Cert.KernelIdeal.Gen Cert.KernelIdeal.Run
open Idealize.ShloMosaic Cert.Score

/-- The activation, as this program spells it. -/
theorem act_spelt (x : EReal) : x * Ideal.tanh (if x ≠ x then x else max x 0
    + Ideal.log1p (Ideal.exp (0 - FloatOps.absf (F := Ideal) (φ := .f32) x))) = act x := by
  rw [zero_sub]; rfl

/-- Equality of two states' words, as a number. -/
theorem same_state (b n : Fin 8) :
    FloatOps.sitofp (F := Ideal) .f32 (BitVec.setWidth 32 (IntOp.cmpi .eq (BitVec.ofNat 32 b.val) (BitVec.ofNat 32 n.val))) = if b = n then (1 : EReal) else 0 := by
  have h : BitVec.setWidth 32 (IntOp.cmpi .eq (BitVec.ofNat 32 b.val) (BitVec.ofNat 32 n.val)) = if b = n then 1#32 else 0#32 := by revert b n; decide
  show (((BitVec.setWidth 32 (IntOp.cmpi .eq (BitVec.ofNat 32 b.val) (BitVec.ofNat 32 n.val))).toInt : ℝ) : EReal) = _
  rw [h]
  split
  · simp
  · simp

variable (x0 : Vec Ideal S384x512 .f32) (x1 : Vec Ideal S1x384 .i32) (x2 : Vec Ideal S384x1 .i32) (x3 : Vec Ideal S384x64 .f32)
  (x4 : Vec Ideal S512x512 .bf16) (x5 : Vec Ideal S1x512 .f32) (x6 : Vec Ideal S512x512 .bf16) (x7 : Vec Ideal S1x512 .f32)
  (x8 : Vec Ideal S512x1 .bf16) (x9 : Vec Ideal S1x1 .f32)
  (dense : Fin 8 → Fin 64 → Fin 256 → ℝ) (succ : Fin 384 → Fin 64 → Fin 256 → ℝ) (mask : Fin 384 → Fin 64 → ℝ)
  (id : Fin 384 → Fin 8) (W1 W2 W3 : Fin 512 → Fin 512 → ℝ) (b1 b2 b3 w4 : Fin 512 → ℝ) (b4 : ℝ)
  (e0 : ∀ s h, x0 (ix2 s h) = ((∑ o, actR (pre dense succ id W1 b1 s o h) * mask s o : ℝ) : EReal))
  (e1 : ∀ s, x1 (ix2 0 s) = BitVec.ofNat 32 (id s).val)
  (e2 : ∀ s, x2 (ix2 s 0) = BitVec.ofNat 32 (id s).val)
  (e3 : ∀ s o, x3 (ix2 s o) = ((mask s o : ℝ) : EReal))
  (e4 : ∀ d h, x4 (ix2 d h) = ((W2 d h : ℝ) : EReal))
  (e5 : ∀ h, x5 (ix2 0 h) = ((b2 h : ℝ) : EReal))
  (e6 : ∀ d h, x6 (ix2 d h) = ((W3 d h : ℝ) : EReal))
  (e7 : ∀ h, x7 (ix2 0 h) = ((b3 h : ℝ) : EReal))
  (e8 : ∀ d, x8 (ix2 d 0) = ((w4 d : ℝ) : EReal))
  (e9 : x9 (ix2 0 0) = ((b4 : ℝ) : EReal))

include e0 e3 e4 e5 e6 e7 in
theorem hidden_at (s : Fin 384) (k : Fin 512) :
    k1_pay2 (F := Ideal) x3 x0 x4 x5 x6 x7 (ix2 s k) = ((actR (∑ j, agg dense succ mask id W1 W2 b1 b2 s j * W3 j k + b3 k) : ℝ) : EReal) := by
  pointwise [k1_pay2]
  simp only [act_spelt, e0, e3, e4, e5, e6, e7, ← EReal.coe_mul, ← coe_sum, ← EReal.coe_add, agg_pooled, act_coe]

include e0 e1 e2 e3 e4 e5 e6 e7 e8 e9 in
theorem tail_at (s : Fin 384) :
    tailOf x0 x1 x2 x3 x4 x5 x6 x7 x8 x9 (ix2 s 0)
      = ((share (score dense succ mask id W1 W2 W3 b1 b2 b3 w4 b4) id 0 s : ℝ) : EReal) := by
  have hh := hidden_at x0 x3 x4 x5 x6 x7 dense succ mask id W1 W2 W3 b1 b2 b3 e0 e3 e4 e5 e6 e7
  have hb : Ideal.ofBits .f32 4286578688#32 = ⊥ := by simp [Ideal.ofBits, Ideal.ieee]
  unfold tailOf
  frame_out
  pointwise [k1_pay1]
  simp only [hh, e1, e2, e8, e9, hb, same_state, ← EReal.coe_mul, ← coe_sum, ← EReal.coe_add]
  generalize hL : score dense succ mask id W1 W2 W3 b1 b2 b3 w4 b4 = L
  have hl : ∀ t, ∑ k, actR (∑ j, agg dense succ mask id W1 W2 b1 b2 t j * W3 j k + b3 k) * w4 k + b4 = L t := fun t => by rw [← hL]; rfl
  simp only [hl]
  obtain ⟨t, -, hm⟩ := fold_max_mem (fun x : Fin 384 × Fin 1 => ((L x.1 : ℝ) : EReal)) (s, 0) (EReal.coe_ne_bot _)
  rw [hm, share_eq L id 0 (L t.1)]
  exact share_one L id (L t.1) s

end Cert.KernelIdeal.Weights

end
-- ==== Proof.KernelIdeal.Values.lean ====
/- The kernel's result: the contents of its buffers from boundary to boundary, read at an element. -/
module

public import proofs.«01_k».proof.Proof.KernelIdeal.Run
public import proofs.«01_k».proof.Proof.KernelIdeal.PoolValue
public import proofs.«01_k».proof.Proof.KernelIdeal.TailValue

@[expose] public section

set_option maxRecDepth 16384

noncomputable section

namespace Cert.KernelIdeal.Ends

open Cert.KernelIdeal Cert.KernelIdeal.Gen Cert.KernelIdeal.Run
open Idealize.ShloMosaic Idealize.ShloMosaic.TcCoe Cert.Score Cert.Given Idealize.SL.Sem

variable (m : (ℓ : Loc nD τ sig) → Buf (Elt Ideal) ℓ) (ρ : Dev nD → PrngReg) (c : Dev nD)

/-! ## Where the blocks of the pooling call lie -/

theorem index0_0 : ∀ t : Fin cfg0.N, win0_0.index t 0 = t.val ∧ win0_0.index t 1 = 0 := by decide +kernel
theorem index0_1 : ∀ t : Fin cfg0.N, win0_1.index t 0 = 0 ∧ win0_1.index t 1 = 0 := by decide +kernel
theorem index0_2 : ∀ t : Fin cfg0.N, win0_2.index t 0 = 0 ∧ win0_2.index t 1 = 0 := by decide +kernel
theorem index0_3 : ∀ t : Fin cfg0.N, win0_3.index t 0 = 0 ∧ win0_3.index t 1 = 0 := by decide +kernel
theorem index0_4 : ∀ t : Fin cfg0.N, win0_4.index t 0 = 0 ∧ win0_4.index t 1 = 0 := by decide +kernel
theorem index0_5 : ∀ t : Fin cfg0.N, win0_5.index t 0 = t.val ∧ win0_5.index t 1 = 0 ∧ win0_5.index t 2 = 0 := by decide +kernel
theorem index0_6 : ∀ t : Fin cfg0.N, win0_6.index t 0 = 0 ∧ win0_6.index t 1 = 0 := by decide +kernel
theorem index0_7 : ∀ t : Fin cfg0.N, win0_7.index t 0 = 0 := by decide +kernel
theorem index0_8 : ∀ t : Fin cfg0.N, win0_8.index t 0 = t.val ∧ win0_8.index t 1 = 0 := by decide +kernel
theorem index1_0 : ∀ t : Fin cfg1.N, win1_0.index t 0 = 0 ∧ win1_0.index t 1 = 0 := by decide +kernel
theorem index1_1 : ∀ t : Fin cfg1.N, win1_1.index t 0 = 0 ∧ win1_1.index t 1 = 0 := by decide +kernel
theorem index1_2 : ∀ t : Fin cfg1.N, win1_2.index t 0 = 0 ∧ win1_2.index t 1 = 0 := by decide +kernel
theorem index1_3 : ∀ t : Fin cfg1.N, win1_3.index t 0 = 0 ∧ win1_3.index t 1 = 0 := by decide +kernel
theorem index1_4 : ∀ t : Fin cfg1.N, win1_4.index t 0 = 0 ∧ win1_4.index t 1 = 0 := by decide +kernel
theorem index1_5 : ∀ t : Fin cfg1.N, win1_5.index t 0 = 0 ∧ win1_5.index t 1 = 0 := by decide +kernel
theorem index1_6 : ∀ t : Fin cfg1.N, win1_6.index t 0 = 0 ∧ win1_6.index t 1 = 0 := by decide +kernel
theorem index1_7 : ∀ t : Fin cfg1.N, win1_7.index t 0 = 0 ∧ win1_7.index t 1 = 0 := by decide +kernel
theorem index1_8 : ∀ t : Fin cfg1.N, win1_8.index t 0 = 0 ∧ win1_8.index t 1 = 0 := by decide +kernel
theorem index1_9 : ∀ t : Fin cfg1.N, win1_9.index t 0 = 0 ∧ win1_9.index t 1 = 0 := by decide +kernel
theorem index1_10 : ∀ t : Fin cfg1.N, win1_10.index t 0 = 0 ∧ win1_10.index t 1 = 0 := by decide +kernel
theorem coord0 : ∀ t : Fin cfg0.N, (grid0.coords t 0).val = t.val := by decide +kernel
theorem points0 : cfg0.N = 8 := by decide

/-! ## The reshapes, read at an element -/

theorem flat_succ (x : FVec Ideal S384x64x256 .f32) (y : Fin 24576) (d : Fin 256) :
    shapeCast S24576x256 x shapeCasts_S384x64x256_S24576x256 (ix2 y d)
      = x (ix3 ⟨y.val / 64, by omega⟩ ⟨y.val % 64, by omega⟩ d) := by
  pointwise

theorem flat_dense (x : FVec Ideal S8x64x256 .f32) (y : Fin 512) (d : Fin 256) :
    shapeCast S512x256 x shapeCasts_S8x64x256_S512x256 (ix2 y d)
      = x (ix3 ⟨y.val / 64, by omega⟩ ⟨y.val % 64, by omega⟩ d) := by
  pointwise

theorem flat_mask (x : IVec S384x64 1) (k : Fin 8) (r : Fin 48) (o : Fin 64) :
    shapeCast S8x48x64 (uitofp (F := Ideal) .f32 x) shapeCasts_S384x64_S8x48x64 (ix3 k r o)
      = (((x (ix2 ⟨k.val * 48 + r.val, by omega⟩ o)).toNat : ℝ) : EReal) := by
  pointwise
  rfl

theorem rows_words (x : IVec S384 32) (k : Fin 8) (r : Fin 48) :
    shapeCast S8x48 x shapeCasts_S384_S8x48 (ix2 k r) = x (ix1 ⟨k.val * 48 + r.val, by omega⟩) := by
  pointwise

theorem row_words (x : IVec S384 32) (s : Fin 384) : shapeCast S1x384 x shapeCasts_S384_S1x384 (ix2 0 s) = x (ix1 s) := by
  pointwise

theorem column_words (x : IVec S384 32) (s : Fin 384) : shapeCast S384x1 x shapeCasts_S384_S384x1 (ix2 s 0) = x (ix1 s) := by
  pointwise

theorem column_back (x : FVec Ideal S384x1 .f32) (s : Fin 384) : shapeCast S384 x shapeCasts_S384x1_S384 (ix1 s) = x (ix2 s 0) := by
  pointwise

theorem row_bias (x : FVec Ideal S512 .f32) (h : Fin 512) : shapeCast S1x512 x shapeCasts_S512_S1x512 (ix2 0 h) = x (ix1 h) := by
  pointwise

theorem one_bias (x : FVec Ideal S1 .f32) : shapeCast S1x1 x shapeCasts_S1_S1x1 (ix2 0 0) = x (ix1 0) := by
  pointwise

theorem upper_w (x : FVec Ideal S512x512 .f32) (d : Fin 256) (h : Fin 512) :
    truncf .bf16 (extractStridedSlice S256x512 ![0, 0] x slices_S512x512_S256x512_0_0) bitsLt_bf16_f32 (ix2 d h) = x (ix2 ⟨d.val, by omega⟩ h) := by
  pointwise

theorem lower_w (x : FVec Ideal S512x512 .f32) (d : Fin 256) (h : Fin 512) :
    truncf .bf16 (extractStridedSlice S256x512 ![256, 0] x slices_S512x512_S256x512_256_0) bitsLt_bf16_f32 (ix2 d h) = x (ix2 ⟨256 + d.val, by omega⟩ h) := by
  pointwise

theorem tail_ends (z : IVec S1 32) (x : IVec S8 32) (n : Fin 8) :
    concatenate S9 0 [⟨S1, z⟩, ⟨S8, x⟩] concatenates_S1_S8_S9_d0 (ix1 ⟨n.val + 1, by omega⟩) = x (ix1 n) := by
  pointwise
  rw [dif_neg (by omega)]
  rfl

/-! ## What the pooling call is entered with -/

theorem v0_is : V3 m ρ c main_v0 = shapeCast S24576x256 (m (c.tc.loc main_arg2)) shapeCasts_S384x64x256_S24576x256 := by
  show StableHlo.after hostOps0_2 (StableHlo.after hostOps0_1 (StableHlo.after hostOps0 (W0 m ρ c))) (Proc.devRef .tc main_v0) = _
  after_results
  rfl

theorem v1_is : V3 m ρ c main_v1 = shapeCast S512x256 (m (c.tc.loc main_arg0)) shapeCasts_S8x64x256_S512x256 := by
  show StableHlo.after hostOps0_2 (StableHlo.after hostOps0_1 (StableHlo.after hostOps0 (W0 m ρ c))) (Proc.devRef .tc main_v1) = _
  after_results
  rfl

theorem v5_is : V3 m ρ c main_v5 = uitofp (F := Ideal) .f32 (m (c.tc.loc main_arg3)) := by
  show StableHlo.after hostOps0_2 (StableHlo.after hostOps0_1 (StableHlo.after hostOps0 (W0 m ρ c))) (Proc.devRef .tc main_v5) = _
  after_results

theorem v6_is : V3 m ρ c main_v6 = shapeCast S8x48x64 (uitofp (F := Ideal) .f32 (m (c.tc.loc main_arg3))) shapeCasts_S384x64_S8x48x64 := by
  show StableHlo.after hostOps0_2 (StableHlo.after hostOps0_1 (StableHlo.after hostOps0 (W0 m ρ c))) (Proc.devRef .tc main_v6) = _
  after_results
  rfl

theorem v8_is : V3 m ρ c main_v8 = truncf (F := Ideal) .bf16 (extractStridedSlice S256x512 ![0, 0] (m (c.tc.loc main_arg6)) slices_S512x512_S256x512_0_0) bitsLt_bf16_f32 := by
  show StableHlo.after hostOps0_2 (StableHlo.after hostOps0_1 (StableHlo.after hostOps0 (W0 m ρ c))) (Proc.devRef .tc main_v8) = _
  after_results

theorem v10_is : V3 m ρ c main_v10 = truncf (F := Ideal) .bf16 (extractStridedSlice S256x512 ![256, 0] (m (c.tc.loc main_arg6)) slices_S512x512_S256x512_256_0) bitsLt_bf16_f32 := by
  show StableHlo.after hostOps0_2 (StableHlo.after hostOps0_1 (StableHlo.after hostOps0 (W0 m ρ c))) (Proc.devRef .tc main_v10) = _
  after_results

theorem v11_is : V3 m ρ c main_v11 = shapeCast S1x512 (m (c.tc.loc main_arg7)) shapeCasts_S512_S1x512 := by
  show StableHlo.after hostOps0_2 (StableHlo.after hostOps0_1 (StableHlo.after hostOps0 (W0 m ρ c))) (Proc.devRef .tc main_v11) = _
  after_results
  rfl

theorem v4_at (n : Fin 8) :
    (V3 m ρ c main_v4 : IVec S9 32) (ix1 ⟨n.val + 1, by omega⟩) = Cert.Given.ends (m (c.tc.loc main_arg4)) (ix1 n) := by
  refine Eq.trans (b := (concatenate S9 0 [⟨S1, broadcastInDim S1 ![] bcast_S_S1 (constantI S_ 32 0#32)⟩, ⟨S8, Cert.Given.ends (m (c.tc.loc main_arg4))⟩] concatenates_S1_S8_S9_d0 : IVec S9 32) (ix1 ⟨n.val + 1, by omega⟩)) ?_ (tail_ends _ _ n)
  refine congrFun ?_ _
  show StableHlo.after hostOps0_2 (StableHlo.after hostOps0_1 (StableHlo.after hostOps0 (W0 m ρ c))) (Proc.devRef .tc main_v4) = _
  after_results
  refine congrArg (fun z : IVec S8 32 => concatenate S9 0 [⟨S1, broadcastInDim S1 ![] bcast_S_S1 (constantI S_ 32 0#32)⟩, ⟨S8, z⟩] concatenates_S1_S8_S9_d0) ?_
  simp only [Cert.Given.ends, Cert.Pre_well_formed.fn_cumsum, Cert.Pre_well_formed.fn_cumsum_0, StableHlo.TRef.toBuf, StableHlo.TRef.ofBuf, StableHlo.TRef.of, cast_cast, cast_eq]

/-! ## The blocks of the pooling call -/

section
variable (V : (c : Dev nD) → (b : Ref sig .tc) → Buf (Elt Ideal) ((c : Thread nD τ).loc b)) (t : Fin cfg0.N) (k : Fin 8) (hk : t.val = k.val)

include hk in
theorem blk0_0_at (r : Fin 3072) (d : Fin 256) :
    (blk0 V c 0 t : FVec Ideal S3072x256 .f32) (ix2 r d) = (V c main_v0 : FVec Ideal S24576x256 .f32) (ix2 ⟨k.val * 3072 + r.val, by omega⟩ d) := by
  blk_ext [blk0, index0_0 t, hk]

theorem blk0_1_at (p : Fin 256) (q : Fin 512) :
    (blk0 V c 1 t : FVec Ideal S256x512 .bf16) (ix2 p q) = (V c main_v8 : FVec Ideal S256x512 .bf16) (ix2 p q) := by
  blk_ext [blk0, index0_1 t]

theorem blk0_2_at (p : Fin 256) (q : Fin 512) :
    (blk0 V c 2 t : FVec Ideal S256x512 .bf16) (ix2 p q) = (V c main_v10 : FVec Ideal S256x512 .bf16) (ix2 p q) := by
  blk_ext [blk0, index0_2 t]

theorem blk0_3_at (p : Fin 512) (q : Fin 256) :
    (blk0 V c 3 t : FVec Ideal S512x256 .f32) (ix2 p q) = (V c main_v1 : FVec Ideal S512x256 .f32) (ix2 p q) := by
  blk_ext [blk0, index0_3 t]

theorem blk0_4_at (p : Fin 1) (q : Fin 512) :
    (blk0 V c 4 t : FVec Ideal S1x512 .f32) (ix2 p q) = (V c main_v11 : FVec Ideal S1x512 .f32) (ix2 p q) := by
  blk_ext [blk0, index0_4 t]

include hk in
theorem blk0_5_at (r : Fin 48) (o : Fin 64) :
    (blk0 V c 5 t : FVec Ideal S1x48x64 .f32) (ix3 0 r o) = (V c main_v6 : FVec Ideal S8x48x64 .f32) (ix3 k r o) := by
  blk_ext [blk0, index0_5 t, hk]

theorem blk0_6_at (p : Fin 8) (q : Fin 48) :
    (blk0 V c 6 t : IVec S8x48 32) (ix2 p q) = (V c main_v12 : IVec S8x48 32) (ix2 p q) := by
  blk_ext [blk0, index0_6 t]

theorem blk0_7_at (p : Fin 9) :
    (blk0 V c 7 t : IVec S9 32) (ix1 p) = (V c main_v4 : IVec S9 32) (ix1 p) := by
  blk_ext [blk0, index0_7 t]

end

/-! ## The blocks of the scoring call -/

section
variable (V : (c : Dev nD) → (b : Ref sig .tc) → Buf (Elt Ideal) ((c : Thread nD τ).loc b)) (t : Fin cfg1.N)

theorem blk1_0_at (p : Fin 384) (q : Fin 512) :
    (blk1 V c 0 t : FVec Ideal S384x512 .f32) (ix2 p q) = (V c main_v13 : FVec Ideal S384x512 .f32) (ix2 p q) := by
  blk_ext [blk1, index1_0 t]

theorem blk1_1_at (p : Fin 1) (q : Fin 384) :
    (blk1 V c 1 t : IVec S1x384 32) (ix2 p q) = (V c main_v14 : IVec S1x384 32) (ix2 p q) := by
  blk_ext [blk1, index1_1 t]

theorem blk1_2_at (p : Fin 384) (q : Fin 1) :
    (blk1 V c 2 t : IVec S384x1 32) (ix2 p q) = (V c main_v15 : IVec S384x1 32) (ix2 p q) := by
  blk_ext [blk1, index1_2 t]

theorem blk1_3_at (p : Fin 384) (q : Fin 64) :
    (blk1 V c 3 t : FVec Ideal S384x64 .f32) (ix2 p q) = (V c main_v5 : FVec Ideal S384x64 .f32) (ix2 p q) := by
  blk_ext [blk1, index1_3 t]

theorem blk1_4_at (p : Fin 512) (q : Fin 512) :
    (blk1 V c 4 t : FVec Ideal S512x512 .bf16) (ix2 p q) = (V c main_v16 : FVec Ideal S512x512 .bf16) (ix2 p q) := by
  blk_ext [blk1, index1_4 t]

theorem blk1_5_at (p : Fin 1) (q : Fin 512) :
    (blk1 V c 5 t : FVec Ideal S1x512 .f32) (ix2 p q) = (V c main_v17 : FVec Ideal S1x512 .f32) (ix2 p q) := by
  blk_ext [blk1, index1_5 t]

theorem blk1_6_at (p : Fin 512) (q : Fin 512) :
    (blk1 V c 6 t : FVec Ideal S512x512 .bf16) (ix2 p q) = (V c main_v18 : FVec Ideal S512x512 .bf16) (ix2 p q) := by
  blk_ext [blk1, index1_6 t]

theorem blk1_7_at (p : Fin 1) (q : Fin 512) :
    (blk1 V c 7 t : FVec Ideal S1x512 .f32) (ix2 p q) = (V c main_v19 : FVec Ideal S1x512 .f32) (ix2 p q) := by
  blk_ext [blk1, index1_7 t]

theorem blk1_8_at (p : Fin 512) (q : Fin 1) :
    (blk1 V c 8 t : FVec Ideal S512x1 .bf16) (ix2 p q) = (V c main_v20 : FVec Ideal S512x1 .bf16) (ix2 p q) := by
  blk_ext [blk1, index1_8 t]

theorem blk1_9_at (p : Fin 1) (q : Fin 1) :
    (blk1 V c 9 t : FVec Ideal S1x1 .f32) (ix2 p q) = (V c main_v21 : FVec Ideal S1x1 .f32) (ix2 p q) := by
  blk_ext [blk1, index1_9 t]

end

/-! ## What the scoring call is entered with -/

theorem v14_is : V5 m ρ c main_v14 = shapeCast S1x384 (m (c.tc.loc main_arg5)) shapeCasts_S384_S1x384 := by
  show StableHlo.after hostOps1 (W4 m ρ c) (Proc.devRef .tc main_v14) = _
  after_results
  exact congrArg (fun x => shapeCast S1x384 x shapeCasts_S384_S1x384) (W4_args m ρ c main_arg5 (by decide))

theorem v15_is : V5 m ρ c main_v15 = shapeCast S384x1 (m (c.tc.loc main_arg5)) shapeCasts_S384_S384x1 := by
  show StableHlo.after hostOps1 (W4 m ρ c) (Proc.devRef .tc main_v15) = _
  after_results
  exact congrArg (fun x => shapeCast S384x1 x shapeCasts_S384_S384x1) (W4_args m ρ c main_arg5 (by decide))

theorem v17_is : V5 m ρ c main_v17 = shapeCast S1x512 (m (c.tc.loc main_arg9)) shapeCasts_S512_S1x512 := by
  show StableHlo.after hostOps1 (W4 m ρ c) (Proc.devRef .tc main_v17) = _
  after_results
  exact congrArg (fun x => shapeCast S1x512 x shapeCasts_S512_S1x512) (W4_args m ρ c main_arg9 (by decide))

theorem v19_is : V5 m ρ c main_v19 = shapeCast S1x512 (m (c.tc.loc main_arg11)) shapeCasts_S512_S1x512 := by
  show StableHlo.after hostOps1 (W4 m ρ c) (Proc.devRef .tc main_v19) = _
  after_results
  exact congrArg (fun x => shapeCast S1x512 x shapeCasts_S512_S1x512) (W4_args m ρ c main_arg11 (by decide))

theorem v21_is : V5 m ρ c main_v21 = shapeCast S1x1 (m (c.tc.loc main_arg13)) shapeCasts_S1_S1x1 := by
  show StableHlo.after hostOps1 (W4 m ρ c) (Proc.devRef .tc main_v21) = _
  after_results
  exact congrArg (fun x => shapeCast S1x1 x shapeCasts_S1_S1x1) (W4_args m ρ c main_arg13 (by decide))

theorem v16_is : V5 m ρ c main_v16 = truncf (F := Ideal) .bf16 (m (c.tc.loc main_arg8)) bitsLt_bf16_f32 := by
  show StableHlo.after hostOps1 (W4 m ρ c) (Proc.devRef .tc main_v16) = _
  after_results
  exact congrArg (fun x => truncf (F := Ideal) .bf16 x bitsLt_bf16_f32) (W4_args m ρ c main_arg8 (by decide))

theorem v18_is : V5 m ρ c main_v18 = truncf (F := Ideal) .bf16 (m (c.tc.loc main_arg10)) bitsLt_bf16_f32 := by
  show StableHlo.after hostOps1 (W4 m ρ c) (Proc.devRef .tc main_v18) = _
  after_results
  exact congrArg (fun x => truncf (F := Ideal) .bf16 x bitsLt_bf16_f32) (W4_args m ρ c main_arg10 (by decide))

theorem v20_is : V5 m ρ c main_v20 = truncf (F := Ideal) .bf16 (m (c.tc.loc main_arg12)) bitsLt_bf16_f32 := by
  show StableHlo.after hostOps1 (W4 m ρ c) (Proc.devRef .tc main_v20) = _
  after_results
  exact congrArg (fun x => truncf (F := Ideal) .bf16 x bitsLt_bf16_f32) (W4_args m ρ c main_arg12 (by decide))

theorem mask_kept : V5 m ρ c main_v5 = uitofp (F := Ideal) .f32 (m (c.tc.loc main_arg3)) :=
  ((W5_of m ρ c main_v5 (by decide)).trans (W4_of m ρ c main_v5 (by decide))).trans (v5_is m ρ c)

theorem v13_kept : V5 m ρ c main_v13 = (dat0 (V3 m ρ) c).arrAt 8 cfg0.N :=
  (W5_of m ρ c main_v13 (by decide)).trans (W4_arr m ρ c 8)

theorem v23_is : W7 m ρ c (Proc.devRef .tc main_v23) = shapeCast S384 ((dat1 (V5 m ρ) c).arrAt 10 cfg1.N) shapeCasts_S384x1_S384 := by
  show StableHlo.after hostOps2 (W6 m ρ c) (Proc.devRef .tc main_v23) = _
  after_results
  exact congrArg (fun x => shapeCast S384 x shapeCasts_S384x1_S384) (W6_arr m ρ c 10)

end Cert.KernelIdeal.Ends

end
-- ==== Proof.KernelIdeal.Result.lean ====
/- The kernel's result over the extended reals: both calls' arrays, and the last reshape. -/
module

public import proofs.«01_k».proof.Proof.KernelIdeal.Values

@[expose] public section

set_option maxRecDepth 16384

noncomputable section

namespace Cert.KernelIdeal.Ends

open Cert.KernelIdeal Cert.KernelIdeal.Gen Cert.KernelIdeal.Run
open Idealize.ShloMosaic Idealize.ShloMosaic.TcCoe Cert.Score Cert.Given Idealize.SL.Sem

variable (m : (ℓ : Loc nD τ sig) → Buf (Elt Ideal) ℓ) (ρ : Dev nD → PrngReg) (c : Dev nD)

/-- What the launch is given on this core is well formed. -/
abbrev Formed : Prop :=
  Is (m (c.tc.loc main_arg0)) (m (c.tc.loc main_arg2)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))

/-! ## The launch's tables as real numbers -/

def denseR (n : Fin 8) (o : Fin 64) (d : Fin 256) : ℝ := ((m (c.tc.loc main_arg0) : FVec Ideal S8x64x256 .f32) (ix3 n o d)).toReal
def succR (s : Fin 384) (o : Fin 64) (d : Fin 256) : ℝ := ((m (c.tc.loc main_arg2) : FVec Ideal S384x64x256 .f32) (ix3 s o d)).toReal
def maskR (s : Fin 384) (o : Fin 64) : ℝ := maskOf (m (c.tc.loc main_arg3)) s o
def idR (s : Fin 384) : Fin 8 := idOf (m (c.tc.loc main_arg5)) s
def w1R (d h : Fin 512) : ℝ := ((m (c.tc.loc main_arg6) : FVec Ideal S512x512 .f32) (ix2 d h)).toReal
def b1R (h : Fin 512) : ℝ := ((m (c.tc.loc main_arg7) : FVec Ideal S512 .f32) (ix1 h)).toReal
def w2R (d h : Fin 512) : ℝ := ((m (c.tc.loc main_arg8) : FVec Ideal S512x512 .f32) (ix2 d h)).toReal
def b2R (h : Fin 512) : ℝ := ((m (c.tc.loc main_arg9) : FVec Ideal S512 .f32) (ix1 h)).toReal
def w3R (d h : Fin 512) : ℝ := ((m (c.tc.loc main_arg10) : FVec Ideal S512x512 .f32) (ix2 d h)).toReal
def b3R (h : Fin 512) : ℝ := ((m (c.tc.loc main_arg11) : FVec Ideal S512 .f32) (ix1 h)).toReal
def w4R (d : Fin 512) : ℝ := ((m (c.tc.loc main_arg12) : FVec Ideal S512x1 .f32) (ix2 d 0)).toReal
def b4R : ℝ := ((m (c.tc.loc main_arg13) : FVec Ideal S1 .f32) (ix1 0)).toReal

variable (hg : Formed m c)
include hg

theorem id_word (s : Fin 384) : (m (c.tc.loc main_arg5) : IVec S384 32) (ix1 s) = BitVec.ofNat 32 (idR m c s).val :=
  idOf_eq _ hg.named s

/-- The word of a state names it. -/
theorem id_iff (s : Fin 384) (b : Fin 8) : idR m c s = b ↔ (m (c.tc.loc main_arg5) : IVec S384 32) (ix1 s) = BitVec.ofNat 32 b.val := by
  rw [id_word m c hg s]
  generalize idR m c s = n
  exact (by decide : ∀ n b : Fin 8, n = b ↔ BitVec.ofNat 32 n.val = BitVec.ofNat 32 b.val) n b

theorem same_state (s s' : Fin 384) (h : (m (c.tc.loc main_arg5) : IVec S384 32) (ix1 s) = (m (c.tc.loc main_arg5) : IVec S384 32) (ix1 s')) : idR m c s = idR m c s' :=
  (id_iff m c hg s _).mpr (h.trans (id_word m c hg s'))

theorem two_states (k : Fin 8) (r : Fin 48) :
    idR m c ⟨k.val * 48 + r.val, by omega⟩ = idR m c ⟨k.val * 48, by omega⟩ ∨ idR m c ⟨k.val * 48 + r.val, by omega⟩ = idR m c ⟨k.val * 48 + 47, by omega⟩ := by
  have e : (k.val * 48 + r.val) / 48 = k.val := by omega
  have h := hg.two ⟨k.val * 48 + r.val, by omega⟩
  simp only [e] at h
  exact h.imp (same_state m c hg _ _) (same_state m c hg _ _)

/-! ## The pooling call's array -/

/-- Each row's options after the first layer, masked and summed. -/
def pooledRows : FVec Ideal S384x512 .f32 := fun i =>
  ((∑ o, actR (pre (denseR m c) (succR m c) (idR m c) (w1R m c) (b1R m c) (i 0) o (i 1)) * maskR m c (i 0) o : ℝ) : EReal)

theorem left0_at (t : Fin cfg0.N) (k : Fin 8) (hk : t.val = k.val) (r : Fin 48) (h : Fin 512) :
    left0 (V3 m ρ) c t (ix2 r h) = pooledRows m c (ix2 ⟨k.val * 48 + r.val, by omega⟩ h) := by
  refine Cert.KernelIdeal.Rows.pooled_at _ _ _ _ _ _ _ _ _ k (denseR m c) (succR m c) (maskR m c) (idR m c) (w1R m c) (b1R m c)
    (fun n => ends (m (c.tc.loc main_arg4)) (ix1 n)) (fun n => (m (c.tc.loc main_arg4) : IVec S8 32) (ix1 n))
    (fun s b => (id_iff m c hg s b).trans (hg.bounds s b)) (two_states m c hg k)
    (fun r o d => ?_) (fun d h => ?_) (fun d h => ?_) (fun n o d => ?_) (fun h => ?_) (fun r o => ?_) (fun r => ?_) (fun n => ?_) ((coord0 t).trans hk) r h
  · rw [blk0_0_at c _ t k hk, v0_is, flat_succ]
    have e1 : (k.val * 3072 + (r.val * 64 + o.val)) / 64 = k.val * 48 + r.val := by omega
    have e2 : (k.val * 3072 + (r.val * 64 + o.val)) % 64 = o.val := by omega
    simp only [e1, e2]
    exact hg.succ _
  · rw [blk0_1_at, v8_is, upper_w]
    exact hg.w1 _
  · rw [blk0_2_at, v10_is, lower_w]
    exact hg.w1 _
  · rw [blk0_3_at, v1_is, flat_dense]
    have e1 : (n.val * 64 + o.val) / 64 = n.val := by omega
    have e2 : (n.val * 64 + o.val) % 64 = o.val := by omega
    simp only [e1, e2]
    exact hg.dense _
  · rw [blk0_4_at, v11_is, row_bias]
    exact hg.b1 _
  · rw [blk0_5_at c _ t k hk, v6_is, flat_mask]
    rfl
  · rw [blk0_6_at, words_at, rows_words]
    exact id_word m c hg _
  · rw [blk0_7_at, v4_at]

theorem rows_array : (dat0 (V3 m ρ) c).arrAt 8 cfg0.N = pooledRows m c := by
  refine (dat0 (V3 m ρ) c).arrAt_eq_of_covers 8 (pooledRows m c) (by decide +kernel) fun t hf y => ?_
  rw [after0_8]
  blk_simp
  obtain ⟨k, hk⟩ : ∃ k : Fin 8, t.val = k.val := ⟨⟨t.val, t.isLt.trans_eq points0⟩, rfl⟩
  obtain ⟨r, h, rfl⟩ : ∃ (r : Fin 48) (h : Fin 512), y = ix2 r h := ⟨y 0, y 1, by funext a; fin_cases a <;> rfl⟩
  refine (left0_at m ρ c hg t k hk r h).trans (congrArg (pooledRows m c) ?_)
  blk_ext [index0_8 t, hk]

/-! ## The scoring call's array -/

theorem left1_at (t : Fin cfg1.N) (s : Fin 384) :
    left1 (V5 m ρ) c t (ix2 s 0)
      = ((share (score (denseR m c) (succR m c) (maskR m c) (idR m c) (w1R m c) (w2R m c) (w3R m c) (b1R m c) (b2R m c) (b3R m c) (w4R m c) (b4R m c)) (idR m c) 0 s : ℝ) : EReal) := by
  refine Cert.KernelIdeal.Weights.tail_at _ _ _ _ _ _ _ _ _ _ (denseR m c) (succR m c) (maskR m c) (idR m c) (w1R m c) (w2R m c) (w3R m c) (b1R m c) (b2R m c) (b3R m c) (w4R m c) (b4R m c)
    (fun s h => ?_) (fun s => ?_) (fun s => ?_) (fun s o => ?_) (fun d h => ?_) (fun h => ?_) (fun d h => ?_) (fun h => ?_) (fun d => ?_) ?_ s
  · rw [blk1_0_at, v13_kept, rows_array m ρ c hg]
    rfl
  · rw [blk1_1_at, v14_is, row_words]
    exact id_word m c hg _
  · rw [blk1_2_at, v15_is, column_words]
    exact id_word m c hg _
  · rw [blk1_3_at, mask_kept]
    rfl
  · rw [blk1_4_at, v16_is]
    exact hg.w2 _
  · rw [blk1_5_at, v17_is, row_bias]
    exact hg.b2 _
  · rw [blk1_6_at, v18_is]
    exact hg.w3 _
  · rw [blk1_7_at, v19_is, row_bias]
    exact hg.b3 _
  · rw [blk1_8_at, v20_is]
    exact hg.w4 _
  · rw [blk1_9_at, v21_is, one_bias]
    exact hg.b4 _

/-- The weights as a column. -/
def column : FVec Ideal S384x1 .f32 := fun i =>
  ((share (score (denseR m c) (succR m c) (maskR m c) (idR m c) (w1R m c) (w2R m c) (w3R m c) (b1R m c) (b2R m c) (b3R m c) (w4R m c) (b4R m c)) (idR m c) 0 (i 0) : ℝ) : EReal)

theorem column_array : (dat1 (V5 m ρ) c).arrAt 10 cfg1.N = column m c := by
  refine (dat1 (V5 m ρ) c).arrAt_eq_of_covers 10 (column m c) (by decide +kernel) fun t hf y => ?_
  rw [after1_10]
  blk_simp
  obtain ⟨s, rfl⟩ : ∃ s : Fin 384, y = ix2 s 0 := ⟨y 0, by funext a; fin_cases a; rfl; exact Fin.fin_one_eq_zero _⟩
  refine (left1_at m ρ c hg t s).trans (congrArg (column m c) (a₁ := ix2 s 0) ?_)
  blk_ext [index1_10 t]

/-- The result buffer ends at each row's weight among the rows of its state. -/
theorem result : W7 m ρ c (Proc.devRef .tc main_v23)
    = answer (m (c.tc.loc main_arg0)) (m (c.tc.loc main_arg2)) (m (c.tc.loc main_arg3)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) := by
  rw [v23_is, column_array m ρ c hg]
  funext i
  obtain ⟨s, rfl⟩ : ∃ s, i = ix1 s := ⟨i 0, by ext a; fin_cases a; rfl⟩
  rw [column_back]
  rfl

end Cert.KernelIdeal.Ends

end
-- ==== Proof.Reference.lean ====
/- The reference's result read at a row: the weight of that row's score among the scores of its state. -/
module

public import proofs.«01_k».proof.Proof.Gen.ReferenceIdeal.Run
public import proofs.«01_k».proof.Proof.Given
public import Idealize.ShloMosaic.Lib.Pointwise
public import Idealize.ShloMosaic.Lib.Tactic.CleanTypes

@[expose] public section

set_option maxRecDepth 16384

noncomputable section

namespace Cert.ReferenceIdeal.Row

open Cert.ReferenceIdeal Cert.ReferenceIdeal.Gen Cert.ReferenceIdeal.Value
open Idealize.ShloMosaic Idealize.ShloMosaic.StableHlo Idealize.SL.Sem Cert.Score Cert.Given

/-! ## Taking rows, and adding into rows -/

/-- A number below eight, as a word read signed, is itself, -/
theorem signed (n : Fin 8) : (BitVec.ofNat 32 n.val).toInt = (n.val : Int) := by
  revert n; decide
/-- and clamping to the table leaves it. -/
theorem clamped (n : Fin 8) : min (BitVec.ofNat 32 n.val).toInt.toNat (8 - 1) = n.val := by
  revert n; decide

/-- Taking from a table of eight numbers, at a position in range. -/
theorem take_at {α : Type} (x : S8.Idx → α) (idx : IVec S384x1 32) (s : Fin 384) (n : Fin 8)
    (h : idx (ix2 s 0) = BitVec.ofNat 32 n.val) :
    Host.gather gather_S8_S384x1_S384_n_0_n_n_0_1_1 x idx (ix1 s) = x (ix1 n) := by
  unfold Host.gather
  congr 1
  funext a
  obtain rfl : a = 0 := Subsingleton.elim _ _
  refine Fin.ext ?_
  show (gather_S8_S384x1_S384_n_0_n_n_0_1_1).start (ix1 s) idx 0 + (gather_S8_S384x1_S384_n_0_n_n_0_1_1).batchCoord (ix1 s) 0
    + (gather_S8_S384x1_S384_n_0_n_n_0_1_1).offCoord (ix1 s) 0 = n.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gather_S8_S384x1_S384_n_0_n_n_0_1_1).startIndexMap from List.mem_singleton.mpr rfl)]
  have hsi : (gather_S8_S384x1_S384_n_0_n_n_0_1_1).siIdx (ix1 s) ⟨List.idxOf (0 : Fin 1) (gather_S8_S384x1_S384_n_0_n_n_0_1_1).startIndexMap,
      List.idxOf_lt_length_iff.2 (List.mem_singleton.mpr rfl)⟩ = (ix2 s 0 : S384x1.Idx) := by
    funext b; refine Fin.ext ?_
    match b with
    | ⟨0, _⟩ => rfl
    | ⟨1, _⟩ => rfl
  rw [hsi, h]
  exact clamped n

/-- Taking whole slices of a table of eight, at a position in range. -/
theorem take_slice {α : Type} (x : S8x64x256.Idx → α) (idx : IVec S384x1 32) (s : Fin 384) (o : Fin 64) (d : Fin 256) (n : Fin 8)
    (h : idx (ix2 s 0) = BitVec.ofNat 32 n.val) :
    Host.gather gather_S8x64x256_S384x1_S384x64x256_12_0_n_n_0_1_164256 x idx (ix3 s o d) = x (ix3 n o d) := by
  unfold Host.gather
  congr 1
  funext a
  refine Fin.ext ?_
  show (gather_S8x64x256_S384x1_S384x64x256_12_0_n_n_0_1_164256).start (ix3 s o d) idx a
    + (gather_S8x64x256_S384x1_S384x64x256_12_0_n_n_0_1_164256).batchCoord (ix3 s o d) a
    + (gather_S8x64x256_S384x1_S384x64x256_12_0_n_n_0_1_164256).offCoord (ix3 s o d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    refine (congrArg (· + 0 + 0) (dif_pos (List.mem_singleton.mpr rfl))).trans ?_
    have hsi : (gather_S8x64x256_S384x1_S384x64x256_12_0_n_n_0_1_164256).siIdx (ix3 s o d)
        ⟨List.idxOf (0 : Fin 3) (gather_S8x64x256_S384x1_S384x64x256_12_0_n_n_0_1_164256).startIndexMap,
        List.idxOf_lt_length_iff.2 (List.mem_singleton.mpr rfl)⟩ = (ix2 s 0 : S384x1.Idx) := by
      funext b; refine Fin.ext ?_
      match b with
      | ⟨0, _⟩ => rfl
      | ⟨1, _⟩ => rfl
    show min (idx ((gather_S8x64x256_S384x1_S384x64x256_12_0_n_n_0_1_164256).siIdx (ix3 s o d)
        ⟨List.idxOf (0 : Fin 3) (gather_S8x64x256_S384x1_S384x64x256_12_0_n_n_0_1_164256).startIndexMap, _⟩)).toInt.toNat (8 - 1) + 0 + 0 = n.val
    rw [hsi, h]
    exact clamped n
  | ⟨1, _⟩ =>
    show 0 + 0 + o.val = o.val
    omega
  | ⟨2, _⟩ =>
    show 0 + 0 + d.val = d.val
    omega

/-- The row an addition lands in. -/
theorem lands (idx : IVec S384x1 32) (s : Fin 384) (n : Fin 8) (h : idx (ix2 s 0) = BitVec.ofNat 32 n.val) :
    (scatter_S8_S384x1_S384_n_0_0_1).resultIdx? (ix1 s) idx = some (ix1 n) := by
  have hst : (scatter_S8_S384x1_S384_n_0_0_1).start (ix1 s) idx 0 = (n.val : Int) := by
    unfold ScatterDims.start
    rw [dif_pos (show (0 : Fin 1) ∈ (scatter_S8_S384x1_S384_n_0_0_1).scatterDimsToOperandDims from List.mem_singleton.mpr rfl)]
    have hsi : (scatter_S8_S384x1_S384_n_0_0_1).siIdx (ix1 s) ⟨List.idxOf (0 : Fin 1) (scatter_S8_S384x1_S384_n_0_0_1).scatterDimsToOperandDims,
        List.idxOf_lt_length_iff.2 (List.mem_singleton.mpr rfl)⟩ = (ix2 s 0 : S384x1.Idx) := by
      funext b; refine Fin.ext ?_
      match b with
      | ⟨0, _⟩ => rfl
      | ⟨1, _⟩ => rfl
    rw [hsi, h]
    exact signed n
  have hw : (scatter_S8_S384x1_S384_n_0_0_1).window (ix1 s) 0 = 0 := rfl
  have hall : ∀ a, 0 ≤ (scatter_S8_S384x1_S384_n_0_0_1).start (ix1 s) idx a + (scatter_S8_S384x1_S384_n_0_0_1).window (ix1 s) a
      ∧ (scatter_S8_S384x1_S384_n_0_0_1).start (ix1 s) idx a + (scatter_S8_S384x1_S384_n_0_0_1).window (ix1 s) a < S8.size a := by
    intro a
    obtain rfl : a = 0 := Subsingleton.elim _ _
    rw [hst, hw]
    have hn := n.isLt
    exact ⟨by omega, show (n.val : Int) + ((0 : ℕ) : Int) < ((8 : ℕ) : Int) by omega⟩
  unfold ScatterDims.resultIdx?
  rw [dif_pos hall]
  congr 1
  funext a
  obtain rfl : a = 0 := Subsingleton.elim _ _
  refine Fin.ext ?_
  show ((scatter_S8_S384x1_S384_n_0_0_1).start (ix1 s) idx 0 + (scatter_S8_S384x1_S384_n_0_0_1).window (ix1 s) 0).toNat = n.val
  rw [hst, hw]; simp

/-- Adding 384 numbers into a table of eight: each entry gets those that name it. -/
theorem added (x : FVec Ideal S8 .f32) (idx : IVec S384x1 32) (upd : FVec Ideal S384 .f32) (id : Fin 384 → Fin 8)
    (h : ∀ s, idx (ix2 s 0) = BitVec.ofNat 32 (id s).val) (n : Fin 8) :
    Host.scatterAdd scatter_S8_S384x1_S384_n_0_0_1 x idx upd (ix1 n)
      = x (ix1 n) + ∑ t ∈ Finset.univ.filter (fun t => id t = n), upd (ix1 t) := by
  show x (ix1 n) + ∑ j ∈ Finset.univ.filter (fun j => (scatter_S8_S384x1_S384_n_0_0_1).resultIdx? j idx = some (ix1 n)), upd j = _
  congr 1
  rw [Finset.sum_filter, Finset.sum_filter]
  refine (sum_idx1 _).trans (Finset.sum_congr rfl fun t _ => ?_)
  rw [lands idx t (id t) (h t)]
  by_cases e : id t = n
  · rw [if_pos e, if_pos (by rw [e])]
  · rw [if_neg e, if_neg (fun hh => e ((ix1_inj _ _).mp (Option.some.inj hh)))]

/-! ## The named terms, read at an index -/

section
variable (V0 : Valuation τ sig (Elt Ideal))
  (dense : Fin 8 → Fin 64 → Fin 256 → ℝ) (succ : Fin 384 → Fin 64 → Fin 256 → ℝ)
  (id : Fin 384 → Fin 8) (W1 W2 W3 : Fin 512 → Fin 512 → ℝ) (b1 b2 b3 w4 : Fin 512 → ℝ) (b4 : ℝ)
  (hid : ∀ s, (V0 (Proc.devRef .tc main_arg5) : IVec S384 32) (ix1 s) = BitVec.ofNat 32 (id s).val)
  (h0 : ∀ i o d, (V0 (Proc.devRef .tc main_arg0) : FVec Ideal S8x64x256 .f32) (ix3 i o d) = ((dense i o d : ℝ) : EReal))
  (h2 : ∀ s o d, (V0 (Proc.devRef .tc main_arg2) : FVec Ideal S384x64x256 .f32) (ix3 s o d) = ((succ s o d : ℝ) : EReal))
  (h6 : ∀ d h, (V0 (Proc.devRef .tc main_arg6) : FVec Ideal S512x512 .f32) (ix2 d h) = ((W1 d h : ℝ) : EReal))
  (h7 : ∀ h, (V0 (Proc.devRef .tc main_arg7) : FVec Ideal S512 .f32) (ix1 h) = ((b1 h : ℝ) : EReal))
  (h8 : ∀ d h, (V0 (Proc.devRef .tc main_arg8) : FVec Ideal S512x512 .f32) (ix2 d h) = ((W2 d h : ℝ) : EReal))
  (h9 : ∀ h, (V0 (Proc.devRef .tc main_arg9) : FVec Ideal S512 .f32) (ix1 h) = ((b2 h : ℝ) : EReal))
  (h10 : ∀ d h, (V0 (Proc.devRef .tc main_arg10) : FVec Ideal S512x512 .f32) (ix2 d h) = ((W3 d h : ℝ) : EReal))
  (h11 : ∀ h, (V0 (Proc.devRef .tc main_arg11) : FVec Ideal S512 .f32) (ix1 h) = ((b3 h : ℝ) : EReal))
  (h12 : ∀ d, (V0 (Proc.devRef .tc main_arg12) : FVec Ideal S512x1 .f32) (ix2 d 0) = ((w4 d : ℝ) : EReal))
  (h13 : (V0 (Proc.devRef .tc main_arg13) : FVec Ideal S1 .f32) (ix1 0) = ((b4 : ℝ) : EReal))

/-- A state's number needs no wrapping. -/
theorem unwrapped (n : Fin 8) : Scalar.select (IntOp.cmpi .slt (BitVec.ofNat 32 n.val) 0#32) (IntOp.addi (BitVec.ofNat 32 n.val) 8#32) (BitVec.ofNat 32 n.val)
    = BitVec.ofNat 32 n.val := by
  revert n; decide

include hid in
theorem word_at (s : Fin 384) (z : Fin 1) : (res_main_call0_v5 V0 : IVec S384x1 32) (ix2 s z) = BitVec.ofNat 32 (id s).val := by
  unfold res_main_call0_v5; clean_types
  pointwise [hid]
  exact unwrapped _

/-- A state's number is within the table. -/
theorem inside (n : Fin 8) : Finset.fold IntOp.andi (1#1) (fun _ : Fin 1 => IntOp.andi (IntOp.cmpi .sge (BitVec.ofNat 32 n.val) 0#32) (IntOp.cmpi .sle (BitVec.ofNat 32 n.val) 7#32)) Finset.univ = 1#1 := by
  revert n; decide

include hid h0 h2 h6 h7 in
theorem pre_at (s : Fin 384) (o : Fin 64) (h : Fin 512) :
    (res_main_v5 V0 : FVec Ideal S384x64x512 .f32) (ix3 s o h) = ((pre dense succ id W1 b1 s o h : ℝ) : EReal) := by
  unfold res_main_v5; clean_types
  pointwise
  simp only [word_at V0 id hid, inside, take_slice _ _ _ _ _ _ (word_at V0 id hid s 0), h0, h2, h6, h7]
  show (∑ x : Fin 256, ((dense (id s) o x : ℝ) : EReal) * ((W1 ⟨x.val, by omega⟩ h : ℝ) : EReal)
    + ∑ x : Fin 256, ((succ s o x : ℝ) : EReal) * ((W1 ⟨256 + x.val, by omega⟩ h : ℝ) : EReal)) + ((b1 h : ℝ) : EReal) = _
  simp only [← EReal.coe_mul, ← coe_sum, ← EReal.coe_add]
  rfl

/-- The activation, as the reference spells it. -/
theorem act_spelt (x : ℝ) : (x : EReal) * Ideal.tanh (if (x : EReal) ≠ (x : EReal) then (x : EReal) else max (x : EReal) 0
    + Ideal.log1p (Ideal.exp (-FloatOps.absf (F := Ideal) (φ := .f32) (x : EReal)))) = ((actR x : ℝ) : EReal) := act_coe x

include hid h0 h2 h6 h7 h8 h9 h10 h11 in
theorem hidden_at (s : Fin 384) (k : Fin 512) :
    (res_main_v21 V0 : FVec Ideal S384x512 .f32) (ix2 s k)
      = ((∑ j, agg dense succ (maskOf (V0 (Proc.devRef .tc main_arg3))) id W1 W2 b1 b2 s j * W3 j k + b3 k : ℝ) : EReal) := by
  have hp := pre_at V0 dense succ id W1 b1 hid h0 h2 h6 h7
  unfold res_main_v21; clean_types
  pointwise [res_main_call1_v3, res_main_call1_cst]
  simp only [hp, h8, h9, h10, h11]
  have hm : ∀ o, FloatOps.uitofp (F := Ideal) .f32 ((V0 (Proc.devRef .tc main_arg3) : IVec S384x64 1) (ix2 s o))
      = ((maskOf (V0 (Proc.devRef .tc main_arg3)) s o : ℝ) : EReal) := fun o => rfl
  simp only [act_spelt, hm, ← EReal.coe_mul, ← coe_sum, ← EReal.coe_add]
  rfl

include hid h0 h2 h6 h7 h8 h9 h10 h11 h12 h13 in
theorem score_at (s : Fin 384) :
    (res_main_v29 V0 : FVec Ideal S384 .f32) (ix1 s)
      = ((score dense succ (maskOf (V0 (Proc.devRef .tc main_arg3))) id W1 W2 W3 b1 b2 b3 w4 b4 s : ℝ) : EReal) := by
  have hp := hidden_at V0 dense succ id W1 W2 W3 b1 b2 b3 hid h0 h2 h6 h7 h8 h9 h10 h11
  unfold res_main_v29; clean_types
  pointwise [res_main_call2_v3, res_main_call2_cst]
  simp only [hp, h12, h13]
  simp only [act_spelt, ← EReal.coe_mul, ← coe_sum, ← EReal.coe_add]
  rfl

/-- Selecting by equality of two states' words. -/
theorem same_state (m n : Fin 8) (x y : EReal) :
    Scalar.select (IntOp.cmpi .eq (BitVec.ofNat 32 m.val) (BitVec.ofNat 32 n.val)) x y = if m = n then x else y := by
  have h : IntOp.cmpi .eq (BitVec.ofNat 32 m.val) (BitVec.ofNat 32 n.val) = if m = n then 1#1 else 0#1 := by revert m n; decide
  rw [h]
  split <;> rfl

include hid in
theorem weight_at (l : Fin 384 → ℝ) (hl : ∀ s, (res_main_v29 V0 : FVec Ideal S384 .f32) (ix1 s) = ((l s : ℝ) : EReal)) (s : Fin 384) :
    (res_main_v47 V0 : FVec Ideal S384 .f32) (ix1 s)
      = Ideal.exp ((l s : EReal) - Finset.univ.fold max ⊥ (fun t => if id t = id s then (l t : EReal) else ⊥)) := by
  unfold res_main_v47; clean_types
  pointwise
  rw [take_at _ _ _ (id s) (by pointwise [hid]; exact unwrapped _)]
  pointwise
  simp only [hl, hid]
  have hb : Ideal.ofBits .f32 4286578688#32 = ⊥ := by simp [Ideal.ofBits, Ideal.ieee]
  have hc : _root_.id (constant (F := Ideal) S_ .f32 4286578688#32) ix0 = (⊥ : EReal) := hb
  simp only [hb, hc, same_state]

include hid in
/-- The result's division, read at a row. -/
theorem quotient_at (l : Fin 384 → ℝ) (hl : ∀ s, (res_main_v29 V0 : FVec Ideal S384 .f32) (ix1 s) = ((l s : ℝ) : EReal))
    (z : FVec Ideal S8 .f32) (hz : ∀ n, z (ix1 n) = 0) (i j : IVec S384x1 32) (hi : ∀ s, i (ix2 s 0) = BitVec.ofNat 32 (id s).val)
    (hj : ∀ s, j (ix2 s 0) = BitVec.ofNat 32 (id s).val) (s : Fin 384) :
    (Host.divf (res_main_v47 V0 : FVec Ideal S384 .f32) (Host.gather gather_S8_S384x1_S384_n_0_n_n_0_1_1
      (Host.scatterAdd scatter_S8_S384x1_S384_n_0_0_1 z i (res_main_v47 V0 : FVec Ideal S384 .f32)) j) : FVec Ideal S384 .f32) (ix1 s)
      = ((share l id 0 s : ℝ) : EReal) := by
  show Ideal.div ((res_main_v47 V0 : FVec Ideal S384 .f32) (ix1 s)) (Host.gather gather_S8_S384x1_S384_n_0_n_n_0_1_1
      (Host.scatterAdd scatter_S8_S384x1_S384_n_0_0_1 z i (res_main_v47 V0 : FVec Ideal S384 .f32)) j (ix1 s)) = _
  rw [take_at _ _ _ (id s) (hj s), added z i _ id hi, hz]
  simp only [weight_at V0 id hid l hl]
  obtain ⟨t, ht, hm⟩ := fold_max_mem (fun t => if id t = id s then (l t : EReal) else ⊥) s (by simp)
  have hs : id t = id s := by by_contra h; exact ht (if_neg h)
  rw [show (if id t = id s then (l t : EReal) else ⊥) = (l t : EReal) from if_pos hs] at hm
  rw [share_eq l id 0 (l t)]
  exact share_two l id (fun b => Finset.univ.fold max ⊥ (fun t => if id t = b then (l t : EReal) else ⊥)) s (l t) hm
end

/-- What the launch is given on this core is well formed. -/
abbrev Formed (m : (ℓ : Loc nD τ sig) → Buf (Elt Ideal) ℓ) (c : Dev nD) : Prop :=
  Is (m (c.tc.loc main_arg0)) (m (c.tc.loc main_arg2)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))

/-- The reference ends with each row's weight in its result, and its arguments as they were. -/
theorem ends (m : (ℓ : Loc nD τ sig) → Buf (Elt Ideal) ℓ) (ρ : Dev nD → PrngReg)
    (h : ∀ c : Dev nD, Formed m c) :
    θ_run defs (onTc (τ := τ) (main (F := Ideal))) ⟨m, fun _ => 0, ρ⟩ fun r => ∀ c : Dev nD,
      r.2.mem (c.tc.loc main_v58) = answer (m (c.tc.loc main_arg0)) (m (c.tc.loc main_arg2)) (m (c.tc.loc main_arg3)) (m (c.tc.loc main_arg5))
        (m (c.tc.loc main_arg6)) (m (c.tc.loc main_arg7)) (m (c.tc.loc main_arg8)) (m (c.tc.loc main_arg9)) (m (c.tc.loc main_arg10))
        (m (c.tc.loc main_arg11)) (m (c.tc.loc main_arg12)) (m (c.tc.loc main_arg13))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13) := by
  refine (θ_run _ _ _).mono (fun r hr c => ⟨(hr c).1.trans ?_, (hr c).2⟩) (Cert.ReferenceIdeal.Value.run m ρ)
  funext y
  obtain ⟨s, rfl⟩ : ∃ s : Fin 384, y = ix1 s := ⟨y 0, eq_ix1 y⟩
  have a := h c
  have hid := idOf_eq (m (c.tc.loc main_arg5)) a.named
  refine quotient_at (launchContents m c) (idOf (m (c.tc.loc main_arg5))) hid _
    (score_at (launchContents m c) _ _ (idOf (m (c.tc.loc main_arg5))) _ _ _ _ _ _ _ _ hid (fun i o d => a.dense (ix3 i o d))
      (fun s o d => a.succ (ix3 s o d)) (fun d h => a.w1 (ix2 d h)) (fun h => a.b1 (ix1 h)) (fun d h => a.w2 (ix2 d h))
      (fun h => a.b2 (ix1 h)) (fun d h => a.w3 (ix2 d h)) (fun h => a.b3 (ix1 h)) (fun d => a.w4 (ix2 d 0)) (a.b4 (ix1 0)))
    _ (fun n => ?_) _ _ (fun s => ?_) (fun s => ?_) s
  · pointwise
  · pointwise
    exact hid s
  · pointwise
    rw [show (launchContents m c (Proc.devRef .tc main_arg5) : IVec S384 32) (ix1 s) = BitVec.ofNat 32 (idOf (m (c.tc.loc main_arg5)) s).val from hid s]
    exact unwrapped _

end Cert.ReferenceIdeal.Row

end
-- ==== Proof.lean ====
/- The proof of the certificate's claims, assembled from the modules beside it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_states_named
public import proofs.«01_k».proof.Proof.Kernel.Run
public import proofs.«01_k».proof.Proof.KernelIdeal.Run
public import proofs.«01_k».proof.Proof.KernelIdeal.Result
public import proofs.«01_k».proof.Proof.Reference
public import proofs.«01_k».proof.Proof.Given
public import proofs.«01_k».proof.Proof.Words
public import Idealize.ShloMosaic.Adequacy
public import Idealize.ShloMosaic.Init

@[expose] public section

noncomputable section

namespace Cert.Proof

open Idealize.ShloMosaic Idealize.SL.Sem

theorem kernel_frame : Cert.quiescent_Kernel := fun m g hm =>
  (θ_run _ _ _).mono (fun _ h => h.1) (Cert.Kernel.Run.ends m g fun c y => by
    obtain ⟨n, hn⟩ := Cert.Words.named_of_states _ _ _ _ _ _ _ _ _ _ _ _ _ _ (hm c) y
    rw [hn]; exact Cert.Kernel.Run.named_of n)

theorem ideal_frame : Cert.quiescent_KernelIdeal := fun m g hm =>
  (θ_run _ _ _).mono (fun _ h => h.1) (Cert.KernelIdeal.Run.ends m g fun c y => by
    obtain ⟨n, hn⟩ := Cert.Words.named_of_states _ _ _ _ _ _ _ _ _ _ _ _ _ _ (hm c) y
    rw [hn]; exact Cert.KernelIdeal.Run.named_of n)

/-- The reference declares no semaphore: its counters are at zero for want of any. -/
theorem no_counter {A : Type} [Zero A] (s : GSem Cert.ReferenceIdeal.nD Cert.ReferenceIdeal.τ Cert.ReferenceIdeal.sig → A) : s = fun _ => 0 :=
  funext fun ⟨_, l⟩ => by
    cases l with
    | reg l => exact absurd l.2 (by decide +revert)
    | dma l => exact absurd l.2 (by decide +revert)

theorem reference_frame : Cert.quiescent_ReferenceIdeal := fun m g _ =>
  (θ_run _ _ _).mono (fun r h => ⟨fun c => (h c).2, no_counter r.2.sem⟩) (Cert.ReferenceIdeal.Value.run m g)

/-! ## Under the launch's full precondition -/

attribute [local instance] Cert.Given.facts

/-- States' words that name states row by row name them throughout. -/
theorem all_named (x : IVec Cert.KernelIdeal.S384 32) (h : ∀ s : Fin 384, ∃ n : Fin 8, x (ix1 s) = BitVec.ofNat 32 n.val) (y : Cert.KernelIdeal.S384.Idx) :
    Cert.KernelIdeal.Run.Named (x y) := by
  obtain ⟨s, rfl⟩ : ∃ s : Fin 384, y = ix1 s := ⟨y 0, by funext a; fin_cases a; rfl⟩
  obtain ⟨n, hn⟩ := h s
  rw [hn]
  exact Cert.KernelIdeal.Run.named_of n

theorem ideal_frame_formed : Cert.quiescent_KernelIdeal_pre_well_formed := fun m g hm =>
  (θ_run _ _ _).mono (fun _ h => h.1) (Cert.KernelIdeal.Run.ends m g fun c =>
    all_named _ (Cert.Given.is_of _ _ _ _ _ _ _ _ _ _ _ _ _ _ (hm c)).named)

theorem reference_frame_formed : Cert.quiescent_ReferenceIdeal_pre_well_formed := fun m g _ =>
  (θ_run _ _ _).mono (fun r h => ⟨fun c => (h c).2, no_counter r.2.sem⟩) (Cert.ReferenceIdeal.Value.run m g)

/-- Both programs end at each row's weight among the rows of its state. -/
theorem same_result : Cert.algebraic_KernelIdeal_ReferenceIdeal_pre_well_formed := fun m g m' g' hm hs => by
  have formed : ∀ c, Cert.KernelIdeal.Ends.Formed m c := fun c => Cert.Given.is_of _ _ _ _ _ _ _ _ _ _ _ _ _ _ (hm c)
  have named : ∀ (c : Dev Cert.KernelIdeal.nD) y, Cert.KernelIdeal.Run.Named (m ((c.tc : Thread Cert.KernelIdeal.nD Cert.KernelIdeal.τ).loc Cert.KernelIdeal.main_arg5) y) := fun c => all_named _ (formed c).named
  refine ⟨fun c => Cert.KernelIdeal.Run.W7 m g c (Proc.devRef .tc Cert.KernelIdeal.main_v23), ?_, ?_⟩
  · exact (θ_run _ _ _).mono (fun r h c => ⟨h.2 c, h.1.1 c⟩) (Cert.KernelIdeal.Run.ends m g named)
  · have formed' : ∀ c, Cert.ReferenceIdeal.Row.Formed m' c := fun c => by
      obtain ⟨h0, -, h2, h3, h4, h5, h6, h7, h8, h9, h10, h11, h12, h13⟩ := hs c
      unfold Cert.ReferenceIdeal.Row.Formed
      rw [h0, h2, h4, h5, h6, h7, h8, h9, h10, h11, h12, h13]
      exact formed c
    refine (θ_run _ _ _).mono (fun r h c => ⟨(h c).1.trans ?_, (h c).2⟩) (Cert.ReferenceIdeal.Row.ends m' g' formed')
    obtain ⟨h0, -, h2, h3, h4, h5, h6, h7, h8, h9, h10, h11, h12, h13⟩ := hs c
    rw [h0, h2, h3, h5, h6, h7, h8, h9, h10, h11, h12, h13]
    exact (Cert.KernelIdeal.Ends.result m g c (formed c)).symm

theorem claim : Cert.Claim :=
  ⟨Cert.Kernel.Gen.facts, Cert.KernelIdeal.Gen.facts, Cert.ReferenceIdeal.Gen.facts, Cert.Pre_states_named.Gen.facts, Cert.Given.facts,
    kernel_frame, ideal_frame, ideal_frame_formed, reference_frame, reference_frame_formed, trivial, same_result⟩

end Cert.Proof

end
